-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_descriptors_not_tiny [hPre_descriptors_not_tiny : Cert.Pre_descriptors_not_tiny.Facts] (m : (ℓ : Loc Cert.KernelIdeal.nD Cert.KernelIdeal.τ Cert.KernelIdeal.sig) → Buf (Elt Ideal) ℓ) : Prop :=
  ∀ c : Dev Cert.KernelIdeal.nD,
    (Cert.Pre_descriptors_not_tiny.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_descriptors_not_tiny [hPre_descriptors_not_tiny : Cert.Pre_descriptors_not_tiny.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_descriptors_not_tiny.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_descriptors_not_tiny [hKernelIdeal : Cert.KernelIdeal.Facts] [hPre_descriptors_not_tiny : Cert.Pre_descriptors_not_tiny.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_descriptors_not_tiny m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_descriptors_not_tiny [hReferenceIdeal : Cert.ReferenceIdeal.Facts] [hPre_descriptors_not_tiny : Cert.Pre_descriptors_not_tiny.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_descriptors_not_tiny m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_descriptors_not_tiny [hKernelIdeal : Cert.KernelIdeal.Facts] [hReferenceIdeal : Cert.ReferenceIdeal.Facts] [hPre_descriptors_not_tiny : Cert.Pre_descriptors_not_tiny.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_descriptors_not_tiny m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_descriptors_not_tiny : Cert.Pre_descriptors_not_tiny.Facts),
    quiescent_Kernel (hKernel := hKernel)
    ∧ quiescent_KernelIdeal (hKernelIdeal := hKernelIdeal)
    ∧ quiescent_KernelIdeal_pre_descriptors_not_tiny (hKernelIdeal := hKernelIdeal) (hPre_descriptors_not_tiny := hPre_descriptors_not_tiny)
    ∧ quiescent_ReferenceIdeal (hReferenceIdeal := hReferenceIdeal)
    ∧ quiescent_ReferenceIdeal_pre_descriptors_not_tiny (hReferenceIdeal := hReferenceIdeal) (hPre_descriptors_not_tiny := hPre_descriptors_not_tiny)
    ∧ preserves_Kernel_KernelIdeal
    ∧ algebraic_KernelIdeal_ReferenceIdeal_pre_descriptors_not_tiny (hKernelIdeal := hKernelIdeal) (hReferenceIdeal := hReferenceIdeal) (hPre_descriptors_not_tiny := hPre_descriptors_not_tiny)
-- ==== Pre_descriptors_not_tiny.lean ====
abbrev S32x64x21x21 : Shape := ⟨4, ![32, 64, 21, 21]⟩
abbrev S25x64x21x21 : Shape := ⟨4, ![25, 64, 21, 21]⟩
abbrev S_ : Shape := ⟨0, ![]⟩
abbrev S32x21x21 : Shape := ⟨3, ![32, 21, 21]⟩
abbrev S25x21x21 : Shape := ⟨3, ![25, 21, 21]⟩

class Facts : Prop where
  reducesTo_S32x64x21x21_S32x21x21_d1 : S32x64x21x21.ReducesTo [1] S32x21x21
  h_S_ : 0 < S_.numel
  reducesTo_S25x64x21x21_S25x21x21_d1 : S25x64x21x21.ReducesTo [1] S25x21x21
  bcast_S_S32x21x21 : S_.BroadcastsInDim S32x21x21 (![] : Fin 0 → Fin S32x21x21.rank)
  reducesTo_S32x21x21_S_d0_1_2 : S32x21x21.ReducesTo [0, 1, 2] S_
  bcast_S_S25x21x21 : S_.BroadcastsInDim S25x21x21 (![] : Fin 0 → Fin S25x21x21.rank)
  reducesTo_S25x21x21_S_d0_1_2 : S25x21x21.ReducesTo [0, 1, 2] S_

variable [Facts]

def fn {F : FTy → Type} [FloatOps F] (main_arg0 : FVec F S32x64x21x21 .f32) (main_arg1 : FVec F S25x64x21x21 .f32) : IVec S_ 1 :=
  let main_v0 : FVec F S32x64x21x21 .f32 := mulf main_arg0 main_arg0
  let main_cst : FVec F S_ .f32 := constant S_ .f32 0x00000000#32
  let main_v1 : FVec F S32x21x21 .f32 := (fun x v => Host.reduceAdd x v reducesTo_S32x64x21x21_S32x21x21_d1 h_S_) main_v0 main_cst
  let main_v2 : FVec F S25x64x21x21 .f32 := mulf main_arg1 main_arg1
  let main_cst_0 : FVec F S_ .f32 := constant S_ .f32 0x00000000#32
  let main_v3 : FVec F S25x21x21 .f32 := (fun x v => Host.reduceAdd x v reducesTo_S25x64x21x21_S25x21x21_d1 h_S_) main_v2 main_cst_0
  let main_cst_1 : FVec F S_ .f32 := constant S_ .f32 0x0DA24260#32
  let main_v4 : FVec F S32x21x21 .f32 := broadcastInDim S32x21x21 ![] bcast_S_S32x21x21 main_cst_1
  let main_v5 : IVec S32x21x21 1 := cmpf .oge main_v1 main_v4
  let main_c : IVec S_ 1 := constantI S_ 1 1#1
  let main_v6 : IVec S_ 1 := (fun x v => Host.reduce IntOp.andi x v reducesTo_S32x21x21_S_d0_1_2 h_S_) main_v5 main_c
  let main_cst_2 : FVec F S_ .f32 := constant S_ .f32 0x0DA24260#32
  let main_v7 : FVec F S25x21x21 .f32 := broadcastInDim S25x21x21 ![] bcast_S_S25x21x21 main_cst_2
  let main_v8 : IVec S25x21x21 1 := cmpf .oge main_v3 main_v7
  let main_c_3 : IVec S_ 1 := constantI S_ 1 1#1
  let main_v9 : IVec S_ 1 := (fun x v => Host.reduce IntOp.andi x v reducesTo_S25x21x21_S_d0_1_2 h_S_) main_v8 main_c_3
  let main_v10 : IVec S_ 1 := andi main_v6 main_v9
  main_v10
-- ==== Kernel.lean ====
abbrev S32x64x21x21 : Shape := ⟨4, ![32, 64, 21, 21]⟩
abbrev S25x64x21x21 : Shape := ⟨4, ![25, 64, 21, 21]⟩
abbrev S32x64x441 : Shape := ⟨3, ![32, 64, 441]⟩
abbrev S32x441x64 : Shape := ⟨3, ![32, 441, 64]⟩
abbrev S_ : Shape := ⟨0, ![]⟩
abbrev S32x448x64 : Shape := ⟨3, ![32, 448, 64]⟩
abbrev S25x64x441 : Shape := ⟨3, ![25, 64, 441]⟩
abbrev S64x25x441 : Shape := ⟨3, ![64, 25, 441]⟩
abbrev S64x5x2205 : Shape := ⟨3, ![64, 5, 2205]⟩
abbrev S64x5x2304 : Shape := ⟨3, ![64, 5, 2304]⟩
abbrev S64x11520 : Shape := ⟨2, ![64, 11520]⟩
abbrev S11520 : Shape := ⟨1, ![11520]⟩
abbrev S1x11520 : Shape := ⟨2, ![1, 11520]⟩
abbrev S32x1x5 : Shape := ⟨3, ![32, 1, 5]⟩
abbrev S1x448x64 : Shape := ⟨3, ![1, 448, 64]⟩
abbrev S1x1x5 : Shape := ⟨3, ![1, 1, 5]⟩
abbrev S448x64 : Shape := ⟨2, ![448, 64]⟩
abbrev S448 : Shape := ⟨1, ![448]⟩
abbrev S448x1 : Shape := ⟨2, ![448, 1]⟩
abbrev S64x128 : Shape := ⟨2, ![64, 128]⟩
abbrev S64x2304 : Shape := ⟨2, ![64, 2304]⟩
abbrev S448x2304 : Shape := ⟨2, ![448, 2304]⟩
abbrev S64x1 : Shape := ⟨2, ![64, 1]⟩
abbrev S64 : Shape := ⟨1, ![64]⟩
abbrev S64x5 : Shape := ⟨2, ![64, 5]⟩
abbrev S5 : Shape := ⟨1, ![5]⟩
abbrev S1x5 : Shape := ⟨2, ![1, 5]⟩
abbrev S32x5 : Shape := ⟨2, ![32, 5]⟩

abbrev nBuf : Space → Nat
  | .hbm => 17
  | .vmem => 7
  | .smem => 0
  | _ => 0

abbrev bufTy : (tb : Table) → Fin (tcTables nBuf tb) → BufTy
  | .hbm, ⟨0, _⟩ => ⟨S32x64x21x21, .f32⟩
  | .hbm, ⟨1, _⟩ => ⟨S25x64x21x21, .f32⟩
  | .hbm, ⟨2, _⟩ => ⟨S32x64x441, .f32⟩
  | .hbm, ⟨3, _⟩ => ⟨S32x441x64, .f32⟩
  | .hbm, ⟨4, _⟩ => ⟨S_, .i32⟩
  | .hbm, ⟨5, _⟩ => ⟨S_, .f32⟩
  | .hbm, ⟨6, _⟩ => ⟨S32x448x64, .f32⟩
  | .hbm, ⟨7, _⟩ => ⟨S25x64x441, .f32⟩
  | .hbm, ⟨8, _⟩ => ⟨S64x25x441, .f32⟩
  | .hbm, ⟨9, _⟩ => ⟨S64x5x2205, .f32⟩
  | .hbm, ⟨10, _⟩ => ⟨S_, .i32⟩
  | .hbm, ⟨11, _⟩ => ⟨S_, .f32⟩
  | .hbm, ⟨12, _⟩ => ⟨S64x5x2304, .f32⟩
  | .hbm, ⟨13, _⟩ => ⟨S64x11520, .f32⟩
  | .hbm, ⟨14, _⟩ => ⟨S64x11520, .f32⟩
  | .hbm, ⟨15, _⟩ => ⟨S32x1x5, .f32⟩
  | .hbm, ⟨16, _⟩ => ⟨S32x5, .f32⟩
  | .local _ .vmem, ⟨0, _⟩ => ⟨S64x11520, .f32⟩
  | .local _ .vmem, ⟨1, _⟩ => ⟨S64x11520, .f32⟩
  | .local _ .vmem, ⟨2, _⟩ => ⟨S1x448x64, .f32⟩
  | .local _ .vmem, ⟨3, _⟩ => ⟨S1x448x64, .f32⟩
  | .local _ .vmem, ⟨4, _⟩ => ⟨S64x11520, .f32⟩
  | .local _ .vmem, ⟨5, _⟩ => ⟨S1x1x5, .f32⟩
  | .local _ .vmem, ⟨6, _⟩ => ⟨S1x1x5, .f32⟩
  | _, _ => ⟨S32x64x21x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg2_1 : Ref sig .tc := ⟨.vmem, 6, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem2_1 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x11520 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x11520 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x448x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x11520 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1x5 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S32x64x21x21 : Shape := ⟨4, ![32, 64, 21, 21]⟩
abbrev S25x64x21x21 : Shape := ⟨4, ![25, 64, 21, 21]⟩
abbrev S32x64x441 : Shape := ⟨3, ![32, 64, 441]⟩
abbrev S32x441x64 : Shape := ⟨3, ![32, 441, 64]⟩
abbrev S_ : Shape := ⟨0, ![]⟩
abbrev S32x441 : Shape := ⟨2, ![32, 441]⟩
abbrev S32x441x1 : Shape := ⟨3, ![32, 441, 1]⟩
abbrev S25x64x441 : Shape := ⟨3, ![25, 64, 441]⟩
abbrev S25x441x64 : Shape := ⟨3, ![25, 441, 64]⟩
abbrev S25x441 : Shape := ⟨2, ![25, 441]⟩
abbrev S25x441x1 : Shape := ⟨3, ![25, 441, 1]⟩
abbrev S1x11025x64 : Shape := ⟨3, ![1, 11025, 64]⟩
abbrev S1x64x11025 : Shape := ⟨3, ![1, 64, 11025]⟩
abbrev S32x1x441x64 : Shape := ⟨4, ![32, 1, 441, 64]⟩
abbrev S64x11025 : Shape := ⟨2, ![64, 11025]⟩
abbrev S32x441x11025 : Shape := ⟨3, ![32, 441, 11025]⟩
abbrev S32x1x441x11025 : Shape := ⟨4, ![32, 1, 441, 11025]⟩
abbrev S32x1x441x5x2205 : Shape := ⟨5, ![32, 1, 441, 5, 2205]⟩
abbrev S32x1x441x5x3 : Shape := ⟨5, ![32, 1, 441, 5, 3]⟩
abbrev S32x1x441x5 : Shape := ⟨4, ![32, 1, 441, 5]⟩
abbrev S32x1x5 : Shape := ⟨3, ![32, 1, 5]⟩
abbrev S32x5 : Shape := ⟨2, ![32, 5]⟩

abbrev nBuf : Space → Nat
  | .hbm => 36
  | .vmem => 0
  | .smem => 0
  | _ => 0

abbrev bufTy : (tb : Table) → Fin (tcTables nBuf tb) → BufTy
  | .hbm, ⟨0, _⟩ => ⟨S32x64x21x21, .f32⟩
  | .hbm, ⟨1, _⟩ => ⟨S25x64x21x21, .f32⟩
  | .hbm, ⟨2, _⟩ => ⟨S32x64x441, .f32⟩
  | .hbm, ⟨3, _⟩ => ⟨S32x441x64, .f32⟩
  | .hbm, ⟨4, _⟩ => ⟨S32x441x64, .f32⟩
  | .hbm, ⟨5, _⟩ => ⟨S_, .f32⟩
  | .hbm, ⟨6, _⟩ => ⟨S32x441, .f32⟩
  | .hbm, ⟨7, _⟩ => ⟨S32x441x1, .f32⟩
  | .hbm, ⟨8, _⟩ => ⟨S32x441x1, .f32⟩
  | .hbm, ⟨9, _⟩ => ⟨S32x441x64, .f32⟩
  | .hbm, ⟨10, _⟩ => ⟨S32x441x64, .f32⟩
  | .hbm, ⟨11, _⟩ => ⟨S25x64x441, .f32⟩
  | .hbm, ⟨12, _⟩ => ⟨S25x441x64, .f32⟩
  | .hbm, ⟨13, _⟩ => ⟨S25x441x64, .f32⟩
  | .hbm, ⟨14, _⟩ => ⟨S_, .f32⟩
  | .hbm, ⟨15, _⟩ => ⟨S25x441, .f32⟩
  | .hbm, ⟨16, _⟩ => ⟨S25x441x1, .f32⟩
  | .hbm, ⟨17, _⟩ => ⟨S25x441x1, .f32⟩
  | .hbm, ⟨18, _⟩ => ⟨S25x441x64, .f32⟩
  | .hbm, ⟨19, _⟩ => ⟨S25x441x64, .f32⟩
  | .hbm, ⟨20, _⟩ => ⟨S1x11025x64, .f32⟩
  | .hbm, ⟨21, _⟩ => ⟨S1x64x11025, .f32⟩
  | .hbm, ⟨22, _⟩ => ⟨S32x1x441x64, .f32⟩
  | .hbm, ⟨23, _⟩ => ⟨S32x441x64, .f32⟩
  | .hbm, ⟨24, _⟩ => ⟨S64x11025, .f32⟩
  | .hbm, ⟨25, _⟩ => ⟨S32x441x11025, .f32⟩
  | .hbm, ⟨26, _⟩ => ⟨S32x1x441x11025, .f32⟩
  | .hbm, ⟨27, _⟩ => ⟨S32x441x11025, .f32⟩
  | .hbm, ⟨28, _⟩ => ⟨S32x1x441x5x2205, .f32⟩
  | .hbm, ⟨29, _⟩ => ⟨S32x1x441x5x3, .f32⟩
  | .hbm, ⟨30, _⟩ => ⟨S32x1x441x5x3, .i32⟩
  | .hbm, ⟨31, _⟩ => ⟨S_, .f32⟩
  | .hbm, ⟨32, _⟩ => ⟨S32x1x441x5, .f32⟩
  | .hbm, ⟨33, _⟩ => ⟨S_, .f32⟩
  | .hbm, ⟨34, _⟩ => ⟨S32x1x5, .f32⟩
  | .hbm, ⟨35, _⟩ => ⟨S32x5, .f32⟩
  | _, _ => ⟨S32x64x21x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_values : Ref sig .tc := ⟨.hbm, 29, rfl⟩
abbrev main_indices : Ref sig .tc := ⟨.hbm, 30, rfl⟩
abbrev main_cst : Ref sig .tc := ⟨.hbm, 31, rfl⟩
abbrev main_v19 : Ref sig .tc := ⟨.hbm, 32, rfl⟩
abbrev main_cst_0 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]
-- ==== Proof.Host.lean ====
/- The arrays the kernel's regions read, at an index: the query's descriptors as rows, padded with rows of zeros, and the
   supports' descriptors as columns, the columns of each class padded with columns of zeros. -/
module

public import proofs.«01_k».proof.Proof.Gen.KernelIdeal.Frame
public import Idealize.ShloMosaic.Lib.Pipeline.ValueKit
public import Idealize.ShloMosaic.Lib.Pointwise
public import Idealize.ShloMosaic.Lib.StableHlo.RunRead

@[expose] public section

set_option maxRecDepth 16384

noncomputable section

namespace Cert.KernelIdeal.Meaning

open Idealize.ShloMosaic Idealize.ShloMosaic.TcCoe Idealize.ShloMosaic.Tactic Idealize.SL.Sem Cert.KernelIdeal Cert.KernelIdeal.Gen Cert.KernelIdeal.Facts

/-- The query's rows, padded to 448. -/
def queryRows (A : FVec Ideal S32x64x21x21 .f32) : FVec Ideal S32x448x64 .f32 :=
  pad S32x448x64 ![0, 0, 0] ![0, 7, 0] ![0, 0, 0]
    (transpose S32x441x64 [0, 2, 1] (shapeCast S32x64x441 A shapeCasts_S32x64x21x21_S32x64x441) transposes_S32x64x441_S32x441x64_0_2_1)
    (sitofp .f32 (constantI S_ 32 0#32)) pads_S32x441x64_S32x448x64_000_070_000 h_S_

/-- The supports' columns, those of each class padded to 2304. -/
def supportColumns (A : FVec Ideal S25x64x21x21 .f32) : FVec Ideal S64x11520 .f32 :=
  shapeCast S64x11520 (pad S64x5x2304 ![0, 0, 0] ![0, 0, 99] ![0, 0, 0]
    (shapeCast S64x5x2205 (transpose S64x25x441 [1, 0, 2] (shapeCast S25x64x441 A shapeCasts_S25x64x21x21_S25x64x441)
      transposes_S25x64x441_S64x25x441_1_0_2) shapeCasts_S64x25x441_S64x5x2205)
    (sitofp .f32 (constantI S_ 32 0#32)) pads_S64x5x2205_S64x5x2304_000_000_0990 h_S_) shapeCasts_S64x5x2304_S64x11520

/-- A row below 441 is the query's descriptor at that place; the seven rows after it are zero. -/
theorem queryRows_at (A : FVec Ideal S32x64x21x21 .f32) (b : Fin 32) (r : Fin 448) (k : Fin 64) : queryRows A (ix3 b r k)
    = if h : r.val < 441 then A (ix4 b k ⟨r.val / 21, by omega⟩ ⟨r.val % 21, by omega⟩) else 0 := by
  pointwise [queryRows]
  have z : FloatOps.sitofp (F := Ideal) FTy.f32 (0#32) = (0 : EReal) := by
    show ((((0#32 : BitVec 32).toInt : ℝ)) : EReal) = 0
    simp
  rw [z]

/-- The column `n` of the class `c` is the support descriptor numbered `c * 2205 + n`. -/
theorem supportColumns_at (A : FVec Ideal S25x64x21x21 .f32) (k : Fin 64) (c : Fin 5) (n : Fin 2205) :
    supportColumns A (ix2 k ⟨2304 * c.val + n.val, by omega⟩)
      = A (ix4 ⟨(c.val * 2205 + n.val) / 441, by omega⟩ k ⟨(c.val * 2205 + n.val) % 441 / 21, by omega⟩
          ⟨(c.val * 2205 + n.val) % 441 % 21, by omega⟩) := by
  pointwise [supportColumns]
  have e : (2304 * c.val + n.val) % 2304 = n.val := by omega
  have hd : c.val * 5 + n.val / 441 = (c.val * 2205 + n.val) / 441 := by omega
  have hm : n.val % 441 = (c.val * 2205 + n.val) % 441 := by omega
  simp only [e, n.isLt, dif_pos, hd, hm]

variable (m : (ℓ : Loc nD τ sig) → Buf (Elt Ideal) ℓ) (ρ : Dev nD → PrngReg)

/-- The second region reads the padded query rows. -/
theorem queries_entered (c : Dev nD) : V6 m ρ c main_v2 = queryRows (m ((c : Thread nD τ).loc main_arg0)) := by
  have h6 : V6 m ρ c main_v2 = W5 m ρ c (Proc.devRef .tc main_v2) := W6_of m ρ c main_v2 (by decide)
  have h0 := W0_args m ρ c main_arg0 (by decide)
  rw [h6, W5_of m ρ c main_v2 (by decide), W4_of m ρ c main_v2 (by decide), W3_of m ρ c main_v2 (by decide)]
  rw [← h0]
  after_results_simp
  rfl

/-- The first region reads the padded support columns. -/
theorem supports_entered (c : Dev nD) : V5 m ρ c main_v7 = supportColumns (m ((c : Thread nD τ).loc main_arg1)) := by
  have h2 := W2_args m ρ c main_arg1 (by decide)
  show StableHlo.after hostOps0_4 (StableHlo.after hostOps0_3 (StableHlo.after hostOps0_2 (W2 m ρ c))) (Proc.devRef .tc main_v7) = _
  rw [← h2]
  generalize W2 m ρ c = X
  after_results_simp
  rfl

/-- The result array holds the second region's results, the axis of length one dropped. -/
theorem result_read (c : Dev nD) : W8 m ρ c (Proc.devRef .tc main_v10)
    = shapeCast S32x5 ((dat1 (V6 m ρ) c).arrAt 2 cfg1.N) shapeCasts_S32x1x5_S32x5 := by
  rw [← W7_arr m ρ c 2]
  after_results_simp
  rfl

end Cert.KernelIdeal.Meaning
-- ==== Proof.Net.lean ====
/- The tournament of one lane: a network of maxima and minima over eighteen values, and that what it leaves are the three
   greatest of them. Pure order theory: no program is mentioned here. -/
module

public import Idealize.ShloMosaic.PureOps.Ideal

@[expose] public section

namespace Cert.Top3

variable {α : Type}

/-- Three values put in descending order by the operations `mx` and `mn`. -/
def sort3 (mx mn : α → α → α) (a b c : α) : α × α × α :=
  let h := mx a b
  let l := mn a b
  let m := mn h c
  (mx h c, mx l m, mn l m)

/-- A fourth value put into a descending triple, the least of the four dropped. -/
def insert3 (mx mn : α → α → α) (t : α × α × α) (d : α) : α × α × α :=
  let r1 := mn t.1 d
  let r2 := mn t.2.1 r1
  (mx t.1 d, mx t.2.1 r1, mx t.2.2 r2)

/-- The tournament over eighteen values: in each round neighbours are paired, the greater goes on and of the lesser ones
    only the greatest is kept; the winners left over and those kept are put into one descending triple. -/
def net (mx mn : α → α → α) (x0 x1 x2 x3 x4 x5 x6 x7 x8 x9 x10 x11 x12 x13 x14 x15 x16 x17 : α) : α × α × α :=
  let h0 := mx x0 x1
  let h1 := mx x2 x3
  let h2 := mx x4 x5
  let h3 := mx x6 x7
  let h4 := mx x8 x9
  let h5 := mx x10 x11
  let h6 := mx x12 x13
  let h7 := mx x14 x15
  let h8 := mx x16 x17
  let l0 := mx (mx (mx (mx (mx (mx (mx (mx (mn x0 x1) (mn x2 x3)) (mn x4 x5)) (mn x6 x7)) (mn x8 x9)) (mn x10 x11))
    (mn x12 x13)) (mn x14 x15)) (mn x16 x17)
  let i0 := mx h0 h1
  let i1 := mx h2 h3
  let i2 := mx h4 h5
  let i3 := mx h6 h7
  let l1 := mx (mx (mx (mn h0 h1) (mn h2 h3)) (mn h4 h5)) (mn h6 h7)
  let j0 := mx i0 i1
  let j1 := mx i2 i3
  let l2 := mx (mn i0 i1) (mn i2 i3)
  let k0 := mx j0 j1
  let l3 := mn j0 j1
  insert3 mx mn (insert3 mx mn (insert3 mx mn (sort3 mx mn h8 k0 l0) l1) l2) l3

/-- One round on zeros and ones, continued from `T` values already counted by `H` winners and the loser `M`: the winners
    together with the greatest loser count as many as all, up to three. -/
theorem round_count (ps : List (ℕ × ℕ)) : ∀ T H M : ℕ, M ≤ 1 → M ≤ H → min 3 T = min 3 (H + M) →
    (∀ p ∈ ps, p.1 ≤ 1 ∧ p.2 ≤ 1) →
    min 3 (ps.foldl (fun s p => s + p.1 + p.2) T) =
      min 3 (ps.foldl (fun s p => s + max p.1 p.2) H + ps.foldl (fun s p => max s (min p.1 p.2)) M) := by
  induction ps with
  | nil => intro T H M _ _ h _; exact h
  | cons p ps ih =>
    intro T H M hM hH hT h
    obtain ⟨ha, hb⟩ := h p List.mem_cons_self
    simp only [List.foldl_cons]
    exact ih _ _ _ (by omega) (by omega) (by omega) fun q hq => h q (List.mem_cons_of_mem _ hq)

/-- The four rounds' counts joined. -/
theorem rounds_join {s0 s1 s2 s3 h k l0 l1 l2 l3 : ℕ} (r0 : min 3 s0 = min 3 (s1 + h + l0)) (r1 : min 3 s1 = min 3 (s2 + l1))
    (r2 : min 3 s2 = min 3 (s3 + l2)) (r3 : min 3 s3 = min 3 (k + l3)) :
    min 3 s0 = min 3 (h + k + l0 + l1 + l2 + l3) := by omega

/-- The indicator that a value reaches the threshold `τ`, as a number. -/
def reach [LinearOrder α] (τ x : α) : ℕ := if τ ≤ x then 1 else 0

section Order
variable [LinearOrder α] (τ : α)

/-- Whether a value reaches the threshold counts at most once. -/
theorem reach_le (x : α) : reach τ x ≤ 1 := by unfold reach; split <;> simp

/-- A greater value reaches every threshold that a lesser one does. -/
theorem reach_mono {x y : α} (h : x ≤ y) : reach τ x ≤ reach τ y := by
  unfold reach
  by_cases hx : τ ≤ x
  · rw [if_pos hx, if_pos (hx.trans h)]
  · rw [if_neg hx]; exact Nat.zero_le _

/-- The greater of two values reaches what either does. -/
theorem reach_max (x y : α) : reach τ (max x y) = max (reach τ x) (reach τ y) :=
  (show Monotone (reach τ) from fun _ _ h => reach_mono τ h).map_max

/-- The lesser of two values reaches what both do. -/
theorem reach_min (x y : α) : reach τ (min x y) = min (reach τ x) (reach τ y) :=
  (show Monotone (reach τ) from fun _ _ h => reach_mono τ h).map_min

/-- A descending triple that counts, at the threshold `τ`, as many as `n` values do, up to three. -/
def Counts (n : ℕ) (t : α × α × α) : Prop :=
  t.2.1 ≤ t.1 ∧ t.2.2 ≤ t.2.1 ∧ reach τ t.1 + reach τ t.2.1 + reach τ t.2.2 = min 3 n

/-- Sorting three values keeps the count at every threshold. -/
theorem sort3_counts (a b c : α) : Counts τ (reach τ a + reach τ b + reach τ c) (sort3 max min a b c) := by
  have ha := reach_le τ a
  have hb := reach_le τ b
  have hc := reach_le τ c
  refine ⟨?_, ?_, ?_⟩
  · simp only [sort3]
    exact max_le ((min_le_left _ _).trans ((le_max_left a b).trans (le_max_left _ _)))
      ((min_le_left _ _).trans (le_max_left _ _))
  · simp only [sort3]
    exact (min_le_left _ _).trans (le_max_left _ _)
  · simp only [sort3, reach_max, reach_min]
    omega

/-- Inserting a value into a sorted triple counts it at every threshold, up to three. -/
theorem insert3_counts {n : ℕ} {t : α × α × α} (h : Counts τ n t) (d : α) :
    Counts τ (n + reach τ d) (insert3 max min t d) := by
  obtain ⟨h1, h2, h3⟩ := h
  have ha := reach_le τ t.1
  have hd := reach_le τ d
  have g1 := reach_mono τ h1
  have g2 := reach_mono τ h2
  refine ⟨?_, ?_, ?_⟩
  · simp only [insert3]
    exact max_le (h1.trans (le_max_left _ _)) ((min_le_left _ _).trans (le_max_left _ _))
  · simp only [insert3]
    exact max_le (h2.trans (le_max_left _ _)) ((min_le_left _ _).trans (le_max_left _ _))
  · simp only [insert3, reach_max, reach_min]
    omega

/-- The tournament's triple counts as many as the eighteen values do, up to three, at every threshold. -/
theorem net_counts (x0 x1 x2 x3 x4 x5 x6 x7 x8 x9 x10 x11 x12 x13 x14 x15 x16 x17 : α) :
    Counts τ (reach τ x0 + reach τ x1 + reach τ x2 + reach τ x3 + reach τ x4 + reach τ x5 + reach τ x6 + reach τ x7 +
      reach τ x8 + reach τ x9 + reach τ x10 + reach τ x11 + reach τ x12 + reach τ x13 + reach τ x14 + reach τ x15 +
      reach τ x16 + reach τ x17) (net max min x0 x1 x2 x3 x4 x5 x6 x7 x8 x9 x10 x11 x12 x13 x14 x15 x16 x17) := by
  have key := insert3_counts τ (insert3_counts τ (insert3_counts τ (sort3_counts τ (max x16 x17)
    (max (max (max x0 x1) (max x2 x3)) (max (max x4 x5) (max x6 x7)) ⊔
      max (max (max x8 x9) (max x10 x11)) (max (max x12 x13) (max x14 x15)))
    (max (max (max (max (max (max (max (max (min x0 x1) (min x2 x3)) (min x4 x5)) (min x6 x7)) (min x8 x9)) (min x10 x11))
      (min x12 x13)) (min x14 x15)) (min x16 x17)))
    (max (max (max (min (max x0 x1) (max x2 x3)) (min (max x4 x5) (max x6 x7))) (min (max x8 x9) (max x10 x11)))
      (min (max x12 x13) (max x14 x15))))
    (max (min (max (max x0 x1) (max x2 x3)) (max (max x4 x5) (max x6 x7)))
      (min (max (max x8 x9) (max x10 x11)) (max (max x12 x13) (max x14 x15)))))
    (min (max (max (max x0 x1) (max x2 x3)) (max (max x4 x5) (max x6 x7)))
      (max (max (max x8 x9) (max x10 x11)) (max (max x12 x13) (max x14 x15))))
  refine ⟨key.1, key.2.1, key.2.2.trans ?_⟩
  have le := reach_le τ
  have r0 := round_count [(reach τ x0, reach τ x1), (reach τ x2, reach τ x3), (reach τ x4, reach τ x5),
    (reach τ x6, reach τ x7), (reach τ x8, reach τ x9), (reach τ x10, reach τ x11), (reach τ x12, reach τ x13),
    (reach τ x14, reach τ x15), (reach τ x16, reach τ x17)] 0 0 0 (by simp) (by simp) rfl (by simp [le])
  have r1 := round_count [(reach τ (max x0 x1), reach τ (max x2 x3)), (reach τ (max x4 x5), reach τ (max x6 x7)),
    (reach τ (max x8 x9), reach τ (max x10 x11)), (reach τ (max x12 x13), reach τ (max x14 x15))] 0 0 0 (by simp) (by simp) rfl
    (by simp [le])
  have r2 := round_count [(reach τ (max (max x0 x1) (max x2 x3)), reach τ (max (max x4 x5) (max x6 x7))),
    (reach τ (max (max x8 x9) (max x10 x11)), reach τ (max (max x12 x13) (max x14 x15)))] 0 0 0 (by simp) (by simp) rfl
    (by simp [le])
  have r3 := round_count [(reach τ (max (max (max x0 x1) (max x2 x3)) (max (max x4 x5) (max x6 x7))),
    reach τ (max (max (max x8 x9) (max x10 x11)) (max (max x12 x13) (max x14 x15))))] 0 0 0 (by simp) (by simp) rfl
    (by simp [le])
  simp only [List.foldl_cons, List.foldl_nil, ← reach_max, ← reach_min, Nat.zero_add, Nat.zero_max] at r0 r1 r2 r3
  exact congrArg (min 3) rfl |>.trans (rounds_join r0 r1 r2 r3).symm

/-- The eighteen values as a family. -/
def netOf (mx mn : α → α → α) (x : Fin 18 → α) : α × α × α :=
  net mx mn (x 0) (x 1) (x 2) (x 3) (x 4) (x 5) (x 6) (x 7) (x 8) (x 9) (x 10) (x 11) (x 12) (x 13) (x 14) (x 15) (x 16) (x 17)

/-- How many values of a family reach the threshold. -/
def count {ι : Type} [Fintype ι] (x : ι → α) : ℕ := (Finset.univ.filter fun i => τ ≤ x i).card

/-- The network applied to a family counts as the family does, up to three, at every threshold. -/
theorem netOf_counts (x : Fin 18 → α) : Counts τ (count τ x) (netOf max min x) := by
  have h : count τ x = ∑ i, reach τ (x i) := by
    simp only [count, reach, Finset.card_filter]
  have := net_counts τ (x 0) (x 1) (x 2) (x 3) (x 4) (x 5) (x 6) (x 7) (x 8) (x 9) (x 10) (x 11) (x 12) (x 13) (x 14) (x 15)
    (x 16) (x 17)
  rw [h]
  simp only [Fin.sum_univ_succ, Fin.sum_univ_zero, add_zero, ← add_assoc]
  exact this

end Order

/-- `(u, v, w)` are the three greatest values of the family `x`: three different places hold at least them, and nothing
    beyond them is found. -/
structure Greatest3 {ι : Type} [LinearOrder α] (x : ι → α) (u v w : α) : Prop where
  held : ∃ i j k, i ≠ j ∧ i ≠ k ∧ j ≠ k ∧ u ≤ x i ∧ v ≤ x j ∧ w ≤ x k
  first : ∀ i, x i ≤ u
  second : ∀ i j, i ≠ j → min (x i) (x j) ≤ v
  third : ∀ i j k, i ≠ j → i ≠ k → j ≠ k → min (x i) (min (x j) (x k)) ≤ w

/-- A triple that counts as the family does at every threshold is the family's three greatest values. -/
theorem greatest3_of_counts {ι : Type} [Fintype ι] [DecidableEq ι] [LinearOrder α] {x : ι → α} {t : α × α × α}
    (h : ∀ τ, Counts τ (count τ x) t) : Greatest3 x t.1 t.2.1 t.2.2 := by
  have up : ∀ (τ : α) (s : Finset ι), (∀ i ∈ s, τ ≤ x i) → s.card ≤ count τ x := fun τ s hs =>
    Finset.card_le_card fun i hi => Finset.mem_filter.2 ⟨Finset.mem_univ _, hs i hi⟩
  have out : ∀ (τ : α) (s : Finset ι), s.card < count τ x → ∃ i, i ∉ s ∧ τ ≤ x i := fun τ s hs => by
    obtain ⟨i, hi, hn⟩ := Finset.exists_mem_notMem_of_card_lt_card hs
    exact ⟨i, hn, (Finset.mem_filter.1 hi).2⟩
  have r1 : ∀ τ : α, reach τ τ = 1 := fun τ => if_pos le_rfl
  have hle : ∀ {τ y : α}, reach τ y = 1 → τ ≤ y := fun {τ y} hy => by
    unfold reach at hy; by_contra hn; rw [if_neg hn] at hy; exact absurd hy (by decide)
  refine ⟨?_, fun i => ?_, fun i j hij => ?_, fun i j k hij hik hjk => ?_⟩
  · obtain ⟨a1, a2, a3⟩ := h t.1
    obtain ⟨b1, b2, b3⟩ := h t.2.1
    obtain ⟨c1, c2, c3⟩ := h t.2.2
    have e2 := reach_mono t.2.1 b1
    have e3 := reach_mono t.2.2 c1
    have e4 := reach_mono t.2.2 c2
    have l1 := reach_le t.2.2 t.1
    rw [r1] at a3 b3 c3 e2 e4
    obtain ⟨i, -, hi⟩ := out t.1 ∅ (by rw [Finset.card_empty]; omega)
    obtain ⟨j, hj', hj⟩ := out t.2.1 {i} (by rw [Finset.card_singleton]; omega)
    obtain ⟨k, hk', hk⟩ := out t.2.2 {i, j} (lt_of_le_of_lt Finset.card_le_two (by omega))
    simp only [Finset.mem_singleton, Finset.mem_insert, not_or] at hj' hk'
    exact ⟨i, j, k, fun e => hj' e.symm, fun e => hk'.1 e.symm, fun e => hk'.2 e.symm, hi, hj, hk⟩
  · obtain ⟨a1, a2, a3⟩ := h (x i)
    have := up (x i) {i} (by simp)
    rw [Finset.card_singleton] at this
    have m1 := reach_mono (x i) a1
    have m2 := reach_mono (x i) a2
    have l1 := reach_le (x i) t.1
    exact hle (by omega)
  · obtain ⟨a1, a2, a3⟩ := h (min (x i) (x j))
    have := up (min (x i) (x j)) {i, j} (by simp)
    rw [Finset.card_pair hij] at this
    have m1 := reach_mono (min (x i) (x j)) a1
    have m2 := reach_mono (min (x i) (x j)) a2
    have l1 := reach_le (min (x i) (x j)) t.1
    exact hle (by omega)
  · obtain ⟨a1, a2, a3⟩ := h (min (x i) (min (x j) (x k)))
    have := up (min (x i) (min (x j) (x k))) {i, j, k} (by simp)
    rw [Finset.card_eq_three.2 ⟨i, j, k, hij, hik, hjk, rfl⟩] at this
    have m1 := reach_mono (min (x i) (min (x j) (x k))) a1
    have m2 := reach_mono (min (x i) (min (x j) (x k))) a2
    have l1 := reach_le (min (x i) (min (x j) (x k))) t.1
    exact hle (by omega)

/-- The tournament leaves the three greatest of its eighteen values. -/
theorem netOf_greatest3 [LinearOrder α] (x : Fin 18 → α) :
    Greatest3 x (netOf max min x).1 (netOf max min x).2.1 (netOf max min x).2.2 :=
  greatest3_of_counts fun τ => netOf_counts τ x

end Cert.Top3
-- ==== Proof.Tile.lean ====
/- The second region's body as one function of a class and a row tile, and that the printed body is that function: its
   fully written-out sequence, five classes of seven row tiles each, is the same function thirty-five times. -/
module

public import proofs.«01_k».proof.Proof.Gen.KernelIdeal.Frame.Region1
public import proofs.«01_k».proof.Proof.Net

@[expose] public section

set_option maxRecDepth 16384

noncomputable section

namespace Cert.KernelIdeal.Tile

open Idealize.ShloMosaic Idealize.ShloMosaic.Tactic Idealize.SL.Sem Cert.KernelIdeal Cert.KernelIdeal.Gen Cert.Top3

variable {F : FTy → Type} [FloatOps F]

/-- The mask value, in every lane. -/
def mask : FVec F S64x128 .f32 := broadcast S64x128 (Scalar.ofBits .f32 0xF149F2CA#32)

/-- The lane's number, in every lane. -/
def lane : IVec S64x128 32 := iota .tc S64x128 32 [1] iota_S64x128_d1_w32

/-- A row's maximum over its lanes, as a column. -/
def rowMax (x : FVec F S64x128 .f32) : FVec F S64x1 .f32 :=
  shapeCast S64x1 (multiReduction .maximumf [1] S64 x 0xFF800000#32 reduces_S64x128_S64 (.inl rfl) rfl) shapeCasts_S64_S64x1

/-- Marks, in each row, the first lane that holds the row's maximum `m`. -/
def firstAt (x : FVec F S64x128 .f32) (m : FVec F S64x1 .f32) : IVec S64x128 1 :=
  cmpi .eq lane (broadcastTo S64x128 (shapeCast S64x1 (multiReductionI .minsi [1] S64
    (select (cmpf .oeq x (broadcastTo S64x128 m broadcasts_S64x1_S64x128)) lane (broadcast S64x128 1073741824#32))
    2147483647#32 reduces_S64x128_S64 rfl) shapeCasts_S64_S64x1) broadcasts_S64x1_S64x128)

/-- The sum of the three greatest values of a row, from its lanes' three greatest each. -/
def topSum (t : FVec F S64x128 .f32 × FVec F S64x128 .f32 × FVec F S64x128 .f32) : FVec F S64x1 .f32 :=
  let s2 := addf t.1 t.2.1
  let m1 := rowMax t.1
  let k1 := firstAt t.1 m1
  let u := select k1 mask t.1
  let m2 := rowMax u
  let m3 := rowMax (select (firstAt u m2) mask u)
  let c21 := maximumf (addf m1 (rowMax (select k1 mask s2))) (addf m2 (rowMax (select k1 s2 mask)))
  maximumf (rowMax (addf s2 t.2.2)) (maximumf c21 (addf (addf m1 m2) m3))

/-- Each slice of 128 columns lies within the 2304 columns. -/
theorem slices_chunk (j : Fin 18) : S64x2304.Slices ![0, 128 * j.val] S64x128 := by
  revert j; decide

/-- Each tile of 64 rows lies within the 448 rows. -/
theorem slices_rows (r : Fin 7) : S448x2304.Slices ![64 * r.val, 0] S64x2304 := by
  revert r; decide

/-- Each class's 2304 columns lie within the 11520 columns. -/
theorem slices_class (c : Fin 5) : S64x11520.Slices ![0, 2304 * c.val] S64x2304 := by
  revert c; decide

/-- The `j`-th slice of 128 columns of a row tile; the last one masked beyond its 29 columns of support descriptors. -/
def chunk (p : FVec F S64x2304 .f32) (j : Fin 18) : FVec F S64x128 .f32 :=
  extractStridedSlice S64x128 ![0, 128 * j.val] p (slices_chunk j)

/-- The last slice of 128 columns, masked beyond its 29 columns of support descriptors. -/
def lastChunk (p : FVec F S64x2304 .f32) : FVec F S64x128 .f32 :=
  select (cmpi .slt lane (broadcast S64x128 29#32)) (chunk p 17) mask

/-- What one row tile adds: the sum of the three greatest values of each of its 64 rows. -/
def tile (p : FVec F S64x2304 .f32) : FVec F S64x1 .f32 :=
  topSum (net maximumf minimumf (chunk p 0) (chunk p 1) (chunk p 2) (chunk p 3) (chunk p 4) (chunk p 5) (chunk p 6) (chunk p 7)
    (chunk p 8) (chunk p 9) (chunk p 10) (chunk p 11) (chunk p 12) (chunk p 13) (chunk p 14) (chunk p 15) (chunk p 16)
    (lastChunk p))

/-- The inner products of all query descriptors with the descriptors of one class. -/
def products (a : FVec F S448x64 .f32) (s : FVec F S64x11520 .f32) (c : Fin 5) : FVec F S448x2304 .f32 :=
  matmul dot_S448x64_S64x2304_S448x2304_1_0_0_1_n_n none a
    (extractStridedSlice S64x2304 ![0, 2304 * c.val] s (slices_class c)) (constant S448x2304 .f32 0x00000000#32)

/-- One row tile's 64 rows of the products. -/
def rows (p : FVec F S448x2304 .f32) (r : Fin 7) : FVec F S64x2304 .f32 :=
  extractStridedSlice S64x2304 ![64 * r.val, 0] p (slices_rows r)

/-- The seven row tiles of one class added up. -/
def classSum (p : FVec F S448x2304 .f32) : FVec F S64x1 .f32 :=
  addf (addf (addf (addf (addf (addf (addf (broadcast S64x1 (Scalar.ofBits .f32 0x00000000#32)) (tile (rows p 0))) (tile (rows p 1)))
    (tile (rows p 2))) (tile (rows p 3))) (tile (rows p 4))) (tile (rows p 5))) (tile (rows p 6))

/-- The query block with every descriptor scaled to length one. -/
def queries (x : Vec F S1x448x64 .f32) : FVec F S448x64 .f32 :=
  let v := shapeCast S448x64 x shapeCasts_S1x448x64_S448x64
  mulf v (broadcastTo S448x64 (rsqrt (maximumf (shapeCast S448x1 (multiReduction .add [1] S448 (mulf v v) 0x00000000#32
    reduces_S448x64_S448 (.inl rfl) rfl) shapeCasts_S448_S448x1) (broadcast S448x1 (Scalar.ofBits .f32 0x0DA24260#32))))
    broadcasts_S448x1_S448x64)

/-- What the body stores: for each class the sum over all rows. -/
def stored (x : Vec F S1x448x64 .f32) (y : Vec F S64x11520 .f32) : FVec F S1x1x5 .f32 :=
  let a := queries x
  let s := shapeCast S64x11520 y shapeCasts_S64x11520_S64x11520
  shapeCast S1x1x5 (shapeCast S1x5 (multiReduction .add [0] S5 (concatenate S64x5 1 [⟨S64x1, classSum (products a s 0)⟩,
    ⟨S64x1, classSum (products a s 1)⟩, ⟨S64x1, classSum (products a s 2)⟩, ⟨S64x1, classSum (products a s 3)⟩,
    ⟨S64x1, classSum (products a s 4)⟩] concatenates_S64x1_S64x1_S64x1_S64x1_S64x1_S64x5_d1) 0x00000000#32 reduces_S64x5_S5
    (.inl rfl) rfl) shapeCasts_S5_S1x5) shapeCasts_S1x5_S1x1x5

/-- The printed body stores `stored`. -/
theorem out_eq (x : Vec F S1x448x64 .f32) (y : Vec F S64x11520 .f32) :
    out1_2 x y = View.canon [⟨r1_2, stored (View.ld x r1_0) (View.ld y r1_1)⟩] := by
  sl_kernel_rfl

end Cert.KernelIdeal.Tile
-- ==== Proof.Arrays.lean ====
/- The arrays the two regions leave: the normalised support columns, and for each query block what the second body stores. -/
module

public import proofs.«01_k».proof.Proof.Host
public import proofs.«01_k».proof.Proof.Tile

@[expose] public section

set_option maxRecDepth 16384

noncomputable section

namespace Cert.KernelIdeal.Meaning

open Idealize.ShloMosaic Idealize.ShloMosaic.TcCoe Idealize.ShloMosaic.Tactic Idealize.SL.Sem Cert.KernelIdeal Cert.KernelIdeal.Gen Cert.KernelIdeal.Facts
open Idealize.ShloMosaic.Pipeline (Dat)

variable (V : (c : Dev nD) → (b : Ref sig .tc) → Buf (Elt Ideal) ((c : Thread nD τ).loc b))

/-- The rows of the query `b`. -/
def block (X : FVec Ideal S32x448x64 .f32) (b : Fin 32) : FVec Ideal S1x448x64 .f32 := fun y => X (ix3 b (y 1) (y 2))

/-- A rank-two offset of zeros, as printed. -/
theorem hz2 : (![0, 0] : Fin 2 → Nat) = fun _ => 0 := funext fun a => by fin_cases a <;> rfl

/-- A rank-three offset of zeros, as printed. -/
theorem hz3 : (![0, 0, 0] : Fin 3 → Nat) = fun _ => 0 := funext fun a => by fin_cases a <;> rfl

/-- The first region's windows sit at the origin: its one block is the whole array. -/
theorem index0 : ∀ t : Fin cfg0.N, win0_0.index t = ![0, 0] ∧ win0_1.index t = ![0, 0] :=
  (by decide +kernel : ∀ t : Fin grid0.N, _)

/-- The second region's windows: at the point `t` the rows of the query `t`, all support columns, the results of the query `t`. -/
theorem index1 : ∀ t : Fin cfg1.N, win1_0.index t = ![t.val, 0, 0] ∧ win1_1.index t = ![0, 0] ∧ win1_2.index t = ![t.val, 0, 0] :=
  (by decide +kernel : ∀ t : Fin grid1.N, _)

/-- The first region leaves the columns it read, each scaled to length one. -/
theorem supports_left (c : Dev nD) : (dat0 V c).arrAt 1 cfg0.N = k0_pay1 (F := Ideal) (V c main_v7) := by
  have hread : ∀ t, iblk0 V c 0 t = V c main_v7 := fun t => by
    blk_ext! [iblk0, index0 t]
  refine (dat0 V c).arrAt_eq_of_covers 1 _ (by decide +kernel) fun t _ y => ?_
  blk_simp
  rw [after0_1]
  unfold out0_1
  rw [View.canon_unit_zero hz2, View.ld_unit_zero hz2, hread]
  refine congrArg _ ?_
  blk_ext [index0 t]

/-- The second region leaves, for each query, what its body stores. -/
theorem sums_left (c : Dev nD) : (dat1 V c).arrAt 2 cfg1.N
    = fun i : S32x1x5.Idx => Tile.stored (F := Ideal) (block (V c main_v2) (i 0)) (V c main_v8) (ix3 0 0 (i 2)) := by
  have hs : ∀ t, iblk1 V c 1 t = V c main_v8 := fun t => by
    blk_ext! [iblk1, index1 t]
  have hq : ∀ (t : Fin cfg1.N) (h : t.val < 32), iblk1 V c 0 t = block (V c main_v2) ⟨t.val, h⟩ := fun t h => by
    funext y
    unfold block
    blk_ext [iblk1, index1 t]
  refine (dat1 V c).arrAt_eq_of_covers 2 _ (by decide +kernel) fun t _ y => ?_
  blk_simp
  rw [after1_2, Tile.out_eq, View.canon_unit_zero hz3, View.ld_unit_zero hz3, View.ld_unit_zero hz2, hs, hq t t.isLt]
  have e0 : (⟨t.val, t.isLt⟩ : Fin 32) = (win1_2.blk t).view.emb y 0 := Fin.ext (by
    blk_simp [index1 t])
  have ey : (y : S1x1x5.Idx) = ix3 0 0 ((win1_2.blk t).view.emb y 2) := by
    blk_ext [index1 t]
  exact congrArg₂ (fun b j => Tile.stored (F := Ideal) (block (V c main_v2) b) (V c main_v8) j) e0 ey

end Cert.KernelIdeal.Meaning
-- ==== Proof.Lanes.lean ====
/- From the three greatest values of each lane to the sum of the three greatest of all: the sums a row's maxima are taken
   of, and that they reach exactly the greatest sum of three values at three different places. Pure mathematics. -/
module

public import proofs.«01_k».proof.Proof.Net

@[expose] public section

noncomputable section

namespace Cert.Top3

/-- `S` is the greatest sum of three values of the family `x` at three different places. -/
structure IsTop {ι : Type} (x : ι → EReal) (S : EReal) : Prop where
  le : ∀ i j k, i ≠ j → i ≠ k → j ≠ k → x i + x j + x k ≤ S
  reached : ∃ i j k, i ≠ j ∧ i ≠ k ∧ j ≠ k ∧ S ≤ x i + x j + x k

/-- A family has one greatest sum of three. -/
theorem IsTop.unique {ι : Type} {x : ι → EReal} {S T : EReal} (hS : IsTop x S) (hT : IsTop x T) : S = T := by
  obtain ⟨i, j, k, h1, h2, h3, h⟩ := hS.reached
  obtain ⟨i', j', k', h1', h2', h3', h'⟩ := hT.reached
  exact le_antisymm (h.trans (hT.le i j k h1 h2 h3)) (h'.trans (hS.le i' j' k' h1' h2' h3'))

/-- Two values bounded by `u`, the lesser of them by `v`: their sum is at most `u + v`. -/
theorem add2_le {x y u v : EReal} (hx : x ≤ u) (hy : y ≤ u) (h : min x y ≤ v) : x + y ≤ u + v := by
  rcases le_total x y with e | e
  · rw [min_eq_left e] at h
    rw [add_comm x y]; exact add_le_add hy h
  · rw [min_eq_right e] at h
    exact add_le_add hx h

/-- Three values bounded by `u`, the lesser of any two by `v`, the least by `w`: their sum is at most `u + v + w`. -/
theorem add3_le {x y z u v w : EReal} (hx : x ≤ u) (hy : y ≤ u) (hz : z ≤ u) (hxy : min x y ≤ v) (hxz : min x z ≤ v)
    (hyz : min y z ≤ v) (h : min x (min y z) ≤ w) : x + y + z ≤ u + v + w := by
  rcases le_total x (min y z) with e | e
  · rw [min_eq_left e] at h
    rw [add_assoc, add_comm x]; exact add_le_add (add2_le hy hz hyz) h
  · rw [min_eq_right e] at h
    rcases le_total y z with e' | e'
    · rw [min_eq_left e'] at h
      rw [add_right_comm]; exact add_le_add (add2_le hx hz hxz) h
    · rw [min_eq_right e'] at h
      exact add_le_add (add2_le hx hy hxy) h

/-- The three greatest values of a family add up to its greatest sum of three. -/
theorem Greatest3.isTop {ι : Type} {x : ι → EReal} {u v w : EReal} (h : Greatest3 x u v w) : IsTop x (u + v + w) := by
  refine ⟨fun i j k hij hik hjk => add3_le (h.first i) (h.first j) (h.first k) (h.second i j hij) (h.second i k hik)
    (h.second j k hjk) (h.third i j k hij hik hjk), ?_⟩
  obtain ⟨i, j, k, hij, hik, hjk, hi, hj, hk⟩ := h.held
  exact ⟨i, j, k, hij, hik, hjk, add_le_add (add_le_add hi hj) hk⟩

/-- The greatest value over the lanes. -/
def top (x : Fin 128 → EReal) : EReal := Finset.univ.fold max ⊥ x

/-- No lane is above the greatest value. -/
theorem le_top (x : Fin 128 → EReal) (l : Fin 128) : x l ≤ top x :=
  Finset.le_sup (f := x) (Finset.mem_univ l)

/-- A bound of every lane bounds the greatest value. -/
theorem top_le {x : Fin 128 → EReal} {S : EReal} (h : ∀ l, x l ≤ S) : top x ≤ S := Finset.sup_le fun l _ => h l

/-- Some lane holds the greatest value. -/
theorem top_reached (x : Fin 128 → EReal) : ∃ l, x l = top x := by
  obtain ⟨l, -, h⟩ := Finset.exists_mem_eq_sup Finset.univ ⟨0, Finset.mem_univ 0⟩ x
  exact ⟨l, h.symm⟩

/-- `x` with the value at the place `a` replaced by `N`. -/
def drop (a : Fin 128) (N : EReal) (x : Fin 128 → EReal) : Fin 128 → EReal := fun l => if l = a then N else x l

/-- The value at the place `a` kept and every other replaced by `N`. -/
def keep (a : Fin 128) (N : EReal) (x : Fin 128 → EReal) : Fin 128 → EReal := fun l => if l = a then x l else N

/-- The sum of three the body takes from the lanes' three greatest values: three from one lane, two and one, or one each of
    three lanes; `a` is the lane of the greatest value, `b` that of the greatest of the others. -/
def combined (N : EReal) (t1 t2 t3 : Fin 128 → EReal) (a b : Fin 128) : EReal :=
  max (top fun l => t1 l + t2 l + t3 l)
    (max (max (top t1 + top (drop a N fun l => t1 l + t2 l)) (top (drop a N t1) + top (keep a N fun l => t1 l + t2 l)))
      (top t1 + top (drop a N t1) + top (drop b N (drop a N t1))))

/-- The combined sum is the greatest sum of three over all lanes and slices. -/
theorem combined_isTop {N : EReal} {t1 t2 t3 : Fin 128 → EReal} {f : Fin 128 → Fin 18 → EReal}
    (hG : ∀ l, Greatest3 (f l) (t1 l) (t2 l) (t3 l)) (h1 : ∀ l, N < t1 l) (h2 : ∀ l, N ≤ t1 l + t2 l)
    {a b : Fin 128} (ha : t1 a = top t1) (hb : drop a N t1 b = top (drop a N t1)) :
    IsTop (fun p : Fin 128 × Fin 18 => f p.1 p.2) (combined N t1 t2 t3 a b) := by
  have drop_ne : ∀ {a l : Fin 128} (x : Fin 128 → EReal), l ≠ a → drop a N x l = x l := fun x h => if_neg h
  have drop_at : ∀ (a : Fin 128) (x : Fin 128 → EReal), drop a N x a = N := fun a x => if_pos rfl
  have keep_at : ∀ (a : Fin 128) (x : Fin 128 → EReal), keep a N x a = x a := fun a x => if_pos rfl
  have other : ∀ a b : Fin 128, ∃ l, l ≠ a ∧ l ≠ b := fun a b => by
    obtain ⟨l, -, hl⟩ := Finset.exists_mem_notMem_of_card_lt_card (s := {a, b}) (t := (Finset.univ : Finset (Fin 128)))
      (lt_of_le_of_lt Finset.card_le_two (by rw [Finset.card_univ, Fintype.card_fin]; decide))
    rw [Finset.mem_insert, Finset.mem_singleton, not_or] at hl
    exact ⟨l, hl⟩
  have hba : b ≠ a := by
    rintro rfl
    obtain ⟨l, hl, -⟩ := other b b
    have := le_top (drop b N t1) l
    rw [← hb, drop_at, drop_ne _ hl] at this
    exact absurd (h1 l) (not_lt.2 this)
  obtain ⟨d, hd⟩ := top_reached (drop b N (drop a N t1))
  have hd' : ∀ l, l ≠ a → l ≠ b → t1 l ≤ drop b N (drop a N t1) d := fun l la lb => by
    rw [hd]; have := le_top (drop b N (drop a N t1)) l
    rwa [drop_ne _ lb, drop_ne _ la] at this
  have hda : d ≠ a := by
    rintro rfl
    obtain ⟨l, la, lb⟩ := other d b
    have := hd' l la lb
    rw [drop_ne _ hba.symm, drop_at] at this
    exact absurd (h1 l) (not_lt.2 this)
  have hdb : d ≠ b := by
    rintro rfl
    obtain ⟨l, la, lb⟩ := other a d
    have := hd' l la lb
    rw [drop_at] at this
    exact absurd (h1 l) (not_lt.2 this)
  have hm2 : ∀ l, l ≠ a → t1 l ≤ top (drop a N t1) := fun l la => by
    have := le_top (drop a N t1) l
    rwa [drop_ne _ la] at this
  have hm3 : ∀ l, l ≠ a → l ≠ b → t1 l ≤ top (drop b N (drop a N t1)) := fun l la lb => by
    rw [← hd]; exact hd' l la lb
  have pair : ∀ l m, l ≠ m → (t1 l + t2 l) + t1 m ≤
      max (top t1 + top (drop a N fun l => t1 l + t2 l)) (top (drop a N t1) + top (keep a N fun l => t1 l + t2 l)) := by
    intro l m hlm
    by_cases hl : l = a
    · subst hl
      refine le_max_of_le_right ?_
      rw [add_comm]
      refine add_le_add (hm2 m hlm.symm) ?_
      have := le_top (keep l N fun l => t1 l + t2 l) l
      rwa [keep_at] at this
    · refine le_max_of_le_left ?_
      rw [add_comm]
      refine add_le_add (le_top t1 m) ?_
      have := le_top (drop a N fun l => t1 l + t2 l) l
      rwa [drop_ne _ hl] at this
  have pair2 : ∀ l m i j k, l ≠ m → i ≠ j → (f l i + f l j) + f m k ≤ combined N t1 t2 t3 a b := by
    intro l m i j k hlm hij
    refine le_trans ?_ (le_max_of_le_right (le_max_of_le_left (pair l m hlm)))
    exact add_le_add (add2_le ((hG l).first i) ((hG l).first j) ((hG l).second i j hij)) ((hG m).first k)
  refine ⟨?_, ?_⟩
  · rintro ⟨l, i⟩ ⟨m, j⟩ ⟨n, k⟩ hij hik hjk
    simp only
    by_cases hlm : l = m
    · subst hlm
      have eij : i ≠ j := fun e => hij (by rw [e])
      by_cases hln : l = n
      · subst hln
        have eik : i ≠ k := fun e => hik (by rw [e])
        have ejk : j ≠ k := fun e => hjk (by rw [e])
        refine le_max_of_le_left (le_trans ((hG l).isTop.le i j k eij eik ejk) ?_)
        exact le_top (fun l => t1 l + t2 l + t3 l) l
      · exact pair2 l n i j k hln eij
    · by_cases hln : l = n
      · subst hln
        have eik : i ≠ k := fun e => hik (by rw [e])
        rw [add_right_comm]
        exact pair2 l m i k j hlm eik
      · by_cases hmn : m = n
        · subst hmn
          have ejk : j ≠ k := fun e => hjk (by rw [e])
          rw [add_assoc, add_comm]
          exact pair2 m l j k i (Ne.symm hlm) ejk
        · refine le_max_of_le_right (le_max_of_le_right ?_)
          have two : ∀ l m, l ≠ m → min (t1 l) (t1 m) ≤ top (drop a N t1) := fun l m h => by
            by_cases la : l = a
            · exact min_le_of_right_le (hm2 m fun e => h (la.trans e.symm))
            · exact min_le_of_left_le (hm2 l la)
          refine le_trans (add_le_add (add_le_add ((hG l).first i) ((hG m).first j)) ((hG n).first k)) ?_
          refine add3_le (le_top t1 l) (le_top t1 m) (le_top t1 n) (two l m hlm) (two l n hln) (two m n hmn) ?_
          by_cases hl : l ≠ a ∧ l ≠ b
          · exact min_le_of_left_le (hm3 l hl.1 hl.2)
          · by_cases hm : m ≠ a ∧ m ≠ b
            · exact min_le_of_right_le (min_le_of_left_le (hm3 m hm.1 hm.2))
            · refine min_le_of_right_le (min_le_of_right_le (hm3 n ?_ ?_))
              · rintro rfl
                have hb1 : l = b := by by_contra e; exact hl ⟨hln, e⟩
                have hb2 : m = b := by by_contra e; exact hm ⟨hmn, e⟩
                exact hlm (hb1.trans hb2.symm)
              · rintro rfl
                have hb1 : l = a := by by_contra e; exact hl ⟨e, hln⟩
                have hb2 : m = a := by by_contra e; exact hm ⟨e, hmn⟩
                exact hlm (hb1.trans hb2.symm)
  · have lane : ∀ l m, l ≠ m → ∀ S, S ≤ (t1 l + t2 l) + t1 m → ∃ i j k : Fin 128 × Fin 18, i ≠ j ∧ i ≠ k ∧ j ≠ k ∧
        S ≤ f i.1 i.2 + f j.1 j.2 + f k.1 k.2 := by
      intro l m hlm S hS
      obtain ⟨i, j, -, hij, -, -, hi, hj, -⟩ := (hG l).held
      obtain ⟨k, -, -, -, -, -, hk, -, -⟩ := (hG m).held
      exact ⟨(l, i), (l, j), (m, k), fun e => hij (congrArg Prod.snd e), fun e => hlm (congrArg Prod.fst e),
        fun e => hlm (congrArg Prod.fst e), hS.trans (add_le_add (add_le_add hi hj) hk)⟩
    unfold combined
    rcases max_choice (top fun l => t1 l + t2 l + t3 l)
      (max (max (top t1 + top (drop a N fun l => t1 l + t2 l)) (top (drop a N t1) + top (keep a N fun l => t1 l + t2 l)))
      (top t1 + top (drop a N t1) + top (drop b N (drop a N t1)))) with e | e <;> rw [e]
    · obtain ⟨l, hl⟩ := top_reached fun l => t1 l + t2 l + t3 l
      obtain ⟨i, j, k, hij, hik, hjk, h⟩ := (hG l).isTop.reached
      exact ⟨(l, i), (l, j), (l, k), fun e => hij (congrArg Prod.snd e), fun e => hik (congrArg Prod.snd e),
        fun e => hjk (congrArg Prod.snd e), hl.symm.le.trans h⟩
    · rcases max_choice (max (top t1 + top (drop a N fun l => t1 l + t2 l))
        (top (drop a N t1) + top (keep a N fun l => t1 l + t2 l)))
        (top t1 + top (drop a N t1) + top (drop b N (drop a N t1))) with e | e <;> rw [e]
      · rcases max_choice (top t1 + top (drop a N fun l => t1 l + t2 l))
          (top (drop a N t1) + top (keep a N fun l => t1 l + t2 l)) with e | e <;> rw [e]
        · obtain ⟨l, hl⟩ := top_reached (drop a N fun l => t1 l + t2 l)
          obtain ⟨m, hma, -⟩ := other a a
          by_cases hla : l = a
          · refine lane m a hma _ ?_
            rw [← hl, hla, drop_at, ← ha, add_comm]
            exact add_le_add (h2 m) le_rfl
          · refine lane l a hla _ ?_
            rw [← hl, drop_ne _ hla, ← ha, add_comm]
        · obtain ⟨l, hl⟩ := top_reached (keep a N fun l => t1 l + t2 l)
          refine lane a b hba.symm _ ?_
          rw [← hb, drop_ne _ hba, add_comm]
          refine add_le_add (top_le fun l => ?_) le_rfl
          by_cases hla : l = a
          · rw [hla, keep_at]
          · exact (if_neg hla : keep a N (fun l => t1 l + t2 l) l = N).le.trans (h2 a)
      · obtain ⟨i, -, -, -, -, -, hi, -, -⟩ := (hG a).held
        obtain ⟨j, -, -, -, -, -, hj, -, -⟩ := (hG b).held
        obtain ⟨k, -, -, -, -, -, hk, -, -⟩ := (hG d).held
        refine ⟨(a, i), (b, j), (d, k), fun e => hba (congrArg Prod.fst e).symm, fun e => hda (congrArg Prod.fst e).symm,
          fun e => hdb (congrArg Prod.fst e).symm, ?_⟩
        rw [← ha, ← hb, ← hd, drop_ne _ hdb, drop_ne _ hda, drop_ne _ hba]
        exact add_le_add (add_le_add hi hj) hk

/-- A family `g` over 2205 places laid out over 128 lanes and 18 slices, the places beyond the last filled with `N`, which is below
    every sum of three: the greatest sum of three is the family's own. -/
theorem IsTop.laid {g : Fin 2205 → EReal} {f : Fin 128 → Fin 18 → EReal} {N S : EReal} {b : ℝ}
    (hf : ∀ l j, f l j = if h : 128 * j.val + l.val < 2205 then g ⟨128 * j.val + l.val, h⟩ else N)
    (hg : ∀ n, ((-b : ℝ) : EReal) ≤ g n ∧ g n ≤ (b : EReal)) (hb : 0 ≤ b) (hN : N ≤ ((-(5 * b) : ℝ) : EReal)) (h : IsTop g S) :
    IsTop (fun p : Fin 128 × Fin 18 => f p.1 p.2) S := by
  have hS : ((-(3 * b) : ℝ) : EReal) ≤ S := by
    have := h.le 0 1 2 (by decide) (by decide) (by decide)
    refine le_trans ?_ (le_trans (add_le_add (add_le_add (hg 0).1 (hg 1).1) (hg 2).1) this)
    rw [← EReal.coe_add, ← EReal.coe_add, EReal.coe_le_coe_iff]; linarith
  have up : ∀ p : Fin 128 × Fin 18, f p.1 p.2 ≤ (b : EReal) := fun p => by
    rw [hf]; split
    · exact (hg _).2
    · exact hN.trans (EReal.coe_le_coe_iff.2 (by linarith))
  have low : ∀ x y z : EReal, x ≤ (b : EReal) → y ≤ (b : EReal) → z ≤ ((-(5 * b) : ℝ) : EReal) → x + y + z ≤ S := by
    intro x y z hx hy hz
    refine le_trans (add_le_add (add_le_add hx hy) hz) (le_trans ?_ hS)
    rw [← EReal.coe_add, ← EReal.coe_add, EReal.coe_le_coe_iff]; linarith
  refine ⟨?_, ?_⟩
  · intro p q r hpq hpr hqr
    have inj : ∀ p q : Fin 128 × Fin 18, p ≠ q → 128 * p.2.val + p.1.val ≠ 128 * q.2.val + q.1.val := fun p q hn e =>
      hn (Prod.ext (Fin.ext (by have := p.1.isLt; have := q.1.isLt; omega)) (Fin.ext (by have := p.1.isLt; have := q.1.isLt; omega)))
    by_cases hp : 128 * p.2.val + p.1.val < 2205
    · by_cases hq : 128 * q.2.val + q.1.val < 2205
      · by_cases hr : 128 * r.2.val + r.1.val < 2205
        · rw [hf p.1, hf q.1, hf r.1, dif_pos hp, dif_pos hq, dif_pos hr]
          exact h.le _ _ _ (fun e => inj p q hpq (congrArg Fin.val e)) (fun e => inj p r hpr (congrArg Fin.val e))
            (fun e => inj q r hqr (congrArg Fin.val e))
        · rw [hf r.1, dif_neg hr]
          exact low _ _ _ (up p) (up q) hN
      · rw [hf q.1, dif_neg hq, add_right_comm]
        exact low _ _ _ (up p) (up r) hN
    · rw [hf p.1, dif_neg hp, add_assoc, add_comm N]
      exact low _ _ _ (up q) (up r) hN
  · obtain ⟨i, j, k, hij, hik, hjk, hle⟩ := h.reached
    have at_ : ∀ n : Fin 2205, ∃ p : Fin 128 × Fin 18, f p.1 p.2 = g n ∧ 128 * p.2.val + p.1.val = n.val := fun n => by
      have hn := n.isLt
      refine ⟨(⟨n.val % 128, Nat.mod_lt _ (by decide)⟩, ⟨n.val / 128, by omega⟩), ?_, ?_⟩
      · have e : 128 * (n.val / 128) + n.val % 128 = n.val := Nat.div_add_mod _ _
        rw [hf, dif_pos (by simp only; omega)]
        exact congrArg g (Fin.ext e)
      · exact Nat.div_add_mod _ _
    obtain ⟨p, hp, ep⟩ := at_ i
    obtain ⟨q, hq, eq⟩ := at_ j
    obtain ⟨r, hr, er⟩ := at_ k
    refine ⟨p, q, r, fun e => hij (Fin.ext (by rw [← ep, ← eq, e])), fun e => hik (Fin.ext (by rw [← ep, ← er, e])),
      fun e => hjk (Fin.ext (by rw [← eq, ← er, e])), ?_⟩
    simp only [hp, hq, hr]
    exact hle

end Cert.Top3
-- ==== Proof.TileValue.lean ====
/- What one row tile of the second region computes at each row over the extended reals: the greatest sum of three of the row's
   inner products with the class's descriptors. -/
module

public import proofs.«01_k».proof.Proof.Tile
public import proofs.«01_k».proof.Proof.Lanes
public import Idealize.ShloMosaic.Lib.Pointwise
public import Idealize.ShloMosaic.Lib.SortNet.Extract

@[expose] public section

set_option maxRecDepth 16384

noncomputable section

namespace Cert.KernelIdeal.Tile

open Idealize.ShloMosaic Idealize.ShloMosaic.Tactic Idealize.SL.Sem Cert.KernelIdeal Cert.KernelIdeal.Gen Cert.Top3

/-- The literal −∞ a maximum starts from. -/
theorem ofBits_negInf : Ideal.ofBits .f32 0xFF800000#32 = ⊥ := by
  simp [Ideal.ofBits, Ideal.ieee]

/-- The mask value as an extended real. -/
def N : EReal := Ideal.ofBits .f32 0xF149F2CA#32

/-- The mask value is a real number far below every sum of three inner products. -/
theorem N_le : N ≤ ((-(5 * 64) : ℝ) : EReal) := by
  unfold N
  have h : Ideal.ofBits .f32 0xF149F2CA#32 = ((-(13234890 : ℝ) * 2 ^ 76 : ℝ) : EReal) := by
    simp [Ideal.ofBits, Ideal.ieee]
  rw [h, EReal.coe_le_coe_iff]; norm_num

/-- A minimum over words is one of the words it was taken of, and at most each of them. -/
theorem fold_minsi (b : BitVec 32) (f : Fin 128 → BitVec 32) (s : Finset (Fin 128)) :
    (s.fold IntOp.minsi b f = b ∨ ∃ l ∈ s, s.fold IntOp.minsi b f = f l) ∧ ∀ l ∈ s, (s.fold IntOp.minsi b f).toInt ≤ (f l).toInt := by
  induction s using Finset.induction_on with
  | empty => exact ⟨Or.inl Finset.fold_empty, fun l h => absurd h (Finset.notMem_empty l)⟩
  | insert a s ha ih =>
    rw [Finset.fold_insert ha]
    refine ⟨?_, fun l hl => ?_⟩
    · unfold IntOp.minsi
      split
      · exact Or.inr ⟨a, Finset.mem_insert_self a s, rfl⟩
      · rcases ih.1 with h | ⟨l, hl, h⟩
        · exact Or.inl h
        · exact Or.inr ⟨l, Finset.mem_insert_of_mem hl, h⟩
    · rw [SortNet.toInt_minsi]
      rcases Finset.mem_insert.1 hl with rfl | hl
      · exact min_le_left _ _
      · exact (min_le_right _ _).trans (ih.2 l hl)

/-- The lane numbers' words read as integers. -/
theorem lane_toInt (l : Fin 128) : (BitVec.ofNat 32 l.val).toInt = (l.val : ℤ) := by
  revert l; decide

/-- The least number of a lane that holds the value `m` marks exactly one lane, and that lane holds `m`. -/
theorem mark_exists (x : Fin 128 → EReal) (m : EReal) (h : ∃ l, x l = m) :
    ∃ a, x a = m ∧ ∀ l : Fin 128, IntOp.cmpi .eq (BitVec.ofNat 32 l.val) (Finset.univ.fold IntOp.minsi 2147483647#32
      fun k : Fin 128 => if x k = m then BitVec.ofNat 32 k.val else 1073741824#32) = if l = a then 1#1 else 0#1 := by
  classical
  obtain ⟨c, hc⟩ := h
  obtain ⟨h1, h2⟩ := fold_minsi 2147483647#32 (fun k : Fin 128 => if x k = m then BitVec.ofNat 32 k.val else 1073741824#32)
    Finset.univ
  have hle := h2 c (Finset.mem_univ c)
  rw [if_pos hc, lane_toInt] at hle
  have hc' := c.isLt
  generalize (Finset.univ.fold IntOp.minsi 2147483647#32
      fun k : Fin 128 => if x k = m then BitVec.ofNat 32 k.val else 1073741824#32) = w at *
  have : ∃ a : Fin 128, x a = m ∧ w = BitVec.ofNat 32 a.val := by
    rcases h1 with rfl | ⟨l, -, rfl⟩
    · exact absurd hle (by rw [show (2147483647#32).toInt = 2147483647 from rfl]; omega)
    · by_cases hl : x l = m
      · exact ⟨l, hl, if_pos hl⟩
      · rw [if_neg hl] at hle
        exact absurd hle (by rw [show (1073741824#32).toInt = 1073741824 from rfl]; omega)
  obtain ⟨a, ha, rfl⟩ := this
  refine ⟨a, ha, fun l => ?_⟩
  by_cases hla : l = a
  · subst hla; rw [if_pos rfl]; simp [IntOp.cmpi]
  · rw [if_neg hla]
    have : BitVec.ofNat 32 l.val ≠ BitVec.ofNat 32 a.val := fun e => hla (Fin.ext (by
      have := congrArg BitVec.toInt e
      rw [lane_toInt, lane_toInt] at this
      exact_mod_cast this))
    show BitVec.ofBool (BitVec.ofNat 32 l.val == BitVec.ofNat 32 a.val) = 0#1
    rw [beq_false_of_ne this]; rfl

/-- A row's lanes. -/
def row (x : FVec Ideal S64x128 .f32) (r : Fin 64) : Fin 128 → EReal := fun l => x (ix2 r l)

/-- The row maximum is the greatest value over the lanes. -/
theorem rowMax_at (x : FVec Ideal S64x128 .f32) (r : Fin 64) (o : Fin 1) : rowMax x (ix2 r o) = top (row x r) := by
  pointwise [rowMax]
  rw [ofBits_negInf]; rfl

/-- The marked lane of a row holds the row's maximum. -/
theorem firstAt_at (x : FVec Ideal S64x128 .f32) (r : Fin 64) :
    ∃ a, row x r a = top (row x r) ∧ ∀ l : Fin 128, firstAt x (rowMax x) (ix2 r l) = if l = a then 1#1 else 0#1 := by
  obtain ⟨a, ha, h⟩ := mark_exists (row x r) (top (row x r)) (top_reached _)
  refine ⟨a, ha, fun l => ?_⟩
  rw [← h l]
  pointwise [firstAt, lane]
  simp only [rowMax_at]
  rfl

/-- A value selected by the mark of one lane. -/
theorem select_mark (l a : Fin 128) (x y : EReal) : Scalar.select (if l = a then 1#1 else 0#1) x y = if l = a then x else y := by
  by_cases h : l = a
  · rw [if_pos h, if_pos h]; rfl
  · rw [if_neg h, if_neg h]; rfl

/-- The body's sum of three at a row is the combined sum of the row's lanes, for the lanes it marks. -/
theorem topSum_at (t : FVec Ideal S64x128 .f32 × FVec Ideal S64x128 .f32 × FVec Ideal S64x128 .f32) (r : Fin 64) (o : Fin 1) :
    ∃ a b, row t.1 r a = top (row t.1 r) ∧ drop a N (row t.1 r) b = top (drop a N (row t.1 r)) ∧
      topSum t (ix2 r o) = combined N (row t.1 r) (row t.2.1 r) (row t.2.2 r) a b := by
  obtain ⟨a, ha, hA⟩ := firstAt_at t.1 r
  have hu : row (select (firstAt t.1 (rowMax t.1)) mask t.1) r = drop a N (row t.1 r) := by
    funext l
    unfold row drop
    pointwise [mask]
    rw [hA, select_mark]; rfl
  obtain ⟨b, hb, hB⟩ := firstAt_at (select (firstAt t.1 (rowMax t.1)) mask t.1) r
  rw [hu] at hb
  have hv : row (select (firstAt (select (firstAt t.1 (rowMax t.1)) mask t.1) (rowMax (select (firstAt t.1 (rowMax t.1)) mask t.1)))
      mask (select (firstAt t.1 (rowMax t.1)) mask t.1)) r = drop b N (drop a N (row t.1 r)) := by
    rw [← hu]
    funext l
    show Scalar.select (firstAt (select (firstAt t.1 (rowMax t.1)) mask t.1)
      (rowMax (select (firstAt t.1 (rowMax t.1)) mask t.1)) (ix2 r l)) _ _ = _
    rw [hB, select_mark]; rfl
  have hd : row (select (firstAt t.1 (rowMax t.1)) mask (addf t.1 t.2.1)) r
      = drop a N fun l => row t.1 r l + row t.2.1 r l := by
    funext l
    show Scalar.select (firstAt t.1 (rowMax t.1) (ix2 r l)) _ _ = _
    rw [hA, select_mark]; rfl
  have hk : row (select (firstAt t.1 (rowMax t.1)) (addf t.1 t.2.1) mask) r
      = keep a N fun l => row t.1 r l + row t.2.1 r l := by
    funext l
    show Scalar.select (firstAt t.1 (rowMax t.1) (ix2 r l)) _ _ = _
    rw [hA, select_mark]; rfl
  refine ⟨a, b, ha, hb, ?_⟩
  show max (rowMax (addf (addf t.1 t.2.1) t.2.2) (ix2 r o)) (max (max (rowMax t.1 (ix2 r o) + rowMax _ (ix2 r o))
    (rowMax _ (ix2 r o) + rowMax _ (ix2 r o))) (rowMax t.1 (ix2 r o) + rowMax _ (ix2 r o) + rowMax _ (ix2 r o))) = _
  simp only [rowMax_at]
  rw [hu, hv, hd, hk]
  rfl

/-- The inner products of row `64 q + r` read off slice `j` and lane `l`, masked beyond the class's 2205 descriptors. -/
def lanes (p : FVec Ideal S448x2304 .f32) (q : Fin 7) (r : Fin 64) (l : Fin 128) (j : Fin 18) : EReal :=
  if 128 * j.val + l.val < 2205 then
    p (ix2 ⟨64 * q.val + r.val, by omega⟩ ⟨128 * j.val + l.val, by omega⟩) else N

/-- Every slice but the last lies within the class's descriptors. -/
theorem chunk_at (p : FVec Ideal S448x2304 .f32) (q : Fin 7) (j : Fin 18) (hj : j.val < 17) (r : Fin 64) (l : Fin 128) :
    chunk (rows p q) j (ix2 r l) = lanes p q r l j := by
  pointwise [chunk, rows]
  unfold lanes
  rw [if_pos (by omega)]

/-- The last slice, masked. -/
theorem lastChunk_at (p : FVec Ideal S448x2304 .f32) (q : Fin 7) (r : Fin 64) (l : Fin 128) :
    lastChunk (rows p q) (ix2 r l) = lanes p q r l 17 := by
  pointwise [lastChunk, mask, lane, chunk, rows]
  unfold lanes
  have hc : IntOp.cmpi .slt (BitVec.ofNat 32 l.val) 29#32 = if 2176 + l.val < 2205 then 1#1 else 0#1 := by
    revert l; decide
  rw [hc]
  by_cases h : 2176 + l.val < 2205
  · rw [if_pos h]; exact (if_pos h).symm
  · rw [if_neg h]; exact (if_neg h).symm

/-- The tournament over the slices, at a row and lane. -/
theorem net_at (p : FVec Ideal S448x2304 .f32) (q : Fin 7) (r : Fin 64) (l : Fin 128) :
    let t := net (α := FVec Ideal S64x128 .f32) maximumf minimumf (chunk (rows p q) 0) (chunk (rows p q) 1) (chunk (rows p q) 2) (chunk (rows p q) 3)
      (chunk (rows p q) 4) (chunk (rows p q) 5) (chunk (rows p q) 6) (chunk (rows p q) 7) (chunk (rows p q) 8) (chunk (rows p q) 9)
      (chunk (rows p q) 10) (chunk (rows p q) 11) (chunk (rows p q) 12) (chunk (rows p q) 13) (chunk (rows p q) 14)
      (chunk (rows p q) 15) (chunk (rows p q) 16) (lastChunk (rows p q))
    (row t.1 r l, row t.2.1 r l, row t.2.2 r l) = netOf max min (lanes p q r l) := by
  unfold netOf
  rw [← chunk_at p q 0 (by decide), ← chunk_at p q 1 (by decide), ← chunk_at p q 2 (by decide), ← chunk_at p q 3 (by decide),
    ← chunk_at p q 4 (by decide), ← chunk_at p q 5 (by decide), ← chunk_at p q 6 (by decide), ← chunk_at p q 7 (by decide),
    ← chunk_at p q 8 (by decide), ← chunk_at p q 9 (by decide), ← chunk_at p q 10 (by decide), ← chunk_at p q 11 (by decide),
    ← chunk_at p q 12 (by decide), ← chunk_at p q 13 (by decide), ← chunk_at p q 14 (by decide), ← chunk_at p q 15 (by decide),
    ← chunk_at p q 16 (by decide), ← lastChunk_at]
  rfl

/-- One tile's row holds the greatest sum of three of the row's inner products, as soon as these are at most 64 in size. -/
theorem tile_at (p : FVec Ideal S448x2304 .f32) (q : Fin 7) (r : Fin 64) (o : Fin 1) {g : Fin 2205 → EReal} {S : EReal}
    (hp : ∀ n : Fin 2205, p (ix2 ⟨64 * q.val + r.val, by omega⟩ ⟨n.val, by omega⟩) = g n)
    (hg : ∀ n, ((-64 : ℝ) : EReal) ≤ g n ∧ g n ≤ ((64 : ℝ) : EReal)) (hS : IsTop g S) :
    tile (rows p q) (ix2 r o) = S := by
  have hf : ∀ l j, lanes p q r l j = if h : 128 * j.val + l.val < 2205 then g ⟨128 * j.val + l.val, h⟩ else N := by
    intro l j
    unfold lanes
    by_cases h : 128 * j.val + l.val < 2205
    · rw [if_pos h, dif_pos h, ← hp]
    · rw [if_neg h, dif_neg h]
  have hN : N < ((-128 : ℝ) : EReal) := lt_of_le_of_lt N_le (EReal.coe_lt_coe_iff.2 (by norm_num))
  have low : ∀ (l : Fin 128) (j : Fin 18), j.val < 17 → ((-64 : ℝ) : EReal) ≤ lanes p q r l j := fun l j hj => by
    rw [hf, dif_pos (by omega)]; exact (hg _).1
  refine IsTop.unique ?_ (hS.laid hf hg (by norm_num) N_le)
  obtain ⟨a, b, ha, hb, h⟩ := topSum_at (net (α := FVec Ideal S64x128 .f32) maximumf minimumf (chunk (rows p q) 0) (chunk (rows p q) 1) (chunk (rows p q) 2)
    (chunk (rows p q) 3) (chunk (rows p q) 4) (chunk (rows p q) 5) (chunk (rows p q) 6) (chunk (rows p q) 7) (chunk (rows p q) 8)
    (chunk (rows p q) 9) (chunk (rows p q) 10) (chunk (rows p q) 11) (chunk (rows p q) 12) (chunk (rows p q) 13)
    (chunk (rows p q) 14) (chunk (rows p q) 15) (chunk (rows p q) 16) (lastChunk (rows p q))) r o
  unfold tile
  rw [h]
  have hn := net_at p q r
  generalize net (α := FVec Ideal S64x128 .f32) maximumf minimumf (chunk (rows p q) 0) (chunk (rows p q) 1) (chunk (rows p q) 2)
    (chunk (rows p q) 3) (chunk (rows p q) 4) (chunk (rows p q) 5) (chunk (rows p q) 6) (chunk (rows p q) 7) (chunk (rows p q) 8)
    (chunk (rows p q) 9) (chunk (rows p q) 10) (chunk (rows p q) 11) (chunk (rows p q) 12) (chunk (rows p q) 13)
    (chunk (rows p q) 14) (chunk (rows p q) 15) (chunk (rows p q) 16) (lastChunk (rows p q)) = t at *
  have hG : ∀ l, Greatest3 (lanes p q r l) (row t.1 r l) (row t.2.1 r l) (row t.2.2 r l) := fun l => by
    have hG := netOf_greatest3 (lanes p q r l)
    rw [← hn l] at hG
    exact hG
  have h1 : ∀ l, ((-64 : ℝ) : EReal) ≤ row t.1 r l := fun l => (low l 0 (by decide)).trans ((hG l).first 0)
  have h2 : ∀ l, ((-64 : ℝ) : EReal) ≤ row t.2.1 r l := fun l =>
    (le_min (low l 0 (by decide)) (low l 1 (by decide))).trans ((hG l).second 0 1 (by decide))
  refine combined_isTop hG (fun l => hN.trans_le ((EReal.coe_le_coe_iff.2 (by norm_num)).trans (h1 l)))
    (fun l => hN.le.trans (le_trans ?_ (add_le_add (h1 l) (h2 l)))) ha hb
  rw [← EReal.coe_add, EReal.coe_le_coe_iff]; norm_num

end Cert.KernelIdeal.Tile
-- ==== Proof.Unit.lean ====
/- A descriptor over its norm, computed by the kernel as a product with a reciprocal square root and by the reference as a
   division by a square root: the same real numbers, none greater than one in magnitude, when the sum of squares is not
   below the kernel's floor. And the split of a sum over padded rows. Pure mathematics. -/
module

public import proofs.«01_k».proof.Proof.Lanes
public import Idealize.ShloMosaic.PureOps.Ideal

@[expose] public section

noncomputable section

namespace Cert.Top3

open Idealize.ShloMosaic

/-- The floor the kernel puts under a sum of squares, the 32-bit number nearest 10⁻³⁰. -/
abbrev floor : EReal := Ideal.ofBits FTy.f32 228737632#32

/-- The floor is a positive real. -/
theorem floor_real : ∃ e : ℝ, 0 < e ∧ floor = (e : EReal) := by
  refine ⟨_, ?_, by simp [floor, Ideal.ofBits, Ideal.ieee, -EReal.coe_mul]; rfl⟩
  positivity

/-- A square of an extended real is not negative. -/
theorem mul_self_nonneg' (x : EReal) : 0 ≤ x * x := by
  induction x using EReal.rec with
  | bot => simp
  | top => simp
  | coe r => rw [← EReal.coe_mul]; exact EReal.coe_nonneg.2 (mul_self_nonneg r)

/-- An inner product of real vectors, taken in the extended reals, is the real one. -/
theorem sum_coe (u w : Fin 64 → ℝ) : (∑ k, (u k : EReal) * (w k : EReal)) = ((∑ k, u k * w k : ℝ) : EReal) := by
  have h : ∀ s : Finset (Fin 64), (∑ k ∈ s, (u k : EReal) * (w k : EReal)) = ((∑ k ∈ s, u k * w k : ℝ) : EReal) := fun s => by
    induction s using Finset.induction_on with
    | empty => simp
    | insert a s ha ih => rw [Finset.sum_insert ha, Finset.sum_insert ha, ih, EReal.coe_add, EReal.coe_mul]
  exact h _

/-- A descriptor whose sum of squares is not below the floor: kernel and reference take it to the same real numbers. -/
theorem unit_exists (v : Fin 64 → EReal) (h : floor ≤ ∑ k, v k * v k) :
    ∃ u : Fin 64 → ℝ, (∀ k, |u k| ≤ 1) ∧ (∀ k, v k * Ideal.rsqrt (max (∑ k, v k * v k) floor) = u k) ∧
      ∀ k, Ideal.div (v k) (Ideal.sqrt (∑ k, v k * v k)) = u k := by
  obtain ⟨e, he, hfloor⟩ := floor_real
  rw [max_eq_left h]
  have le : ∀ k, v k * v k ≤ ∑ k, v k * v k := fun k =>
    Finset.single_le_sum (f := fun k => v k * v k) (fun k _ => mul_self_nonneg' (v k)) (Finset.mem_univ k)
  by_cases hs : ∑ k, v k * v k = ⊤
  · refine ⟨fun _ => 0, fun _ => by simp, fun k => ?_, fun k => ?_⟩
    · rw [hs]; simp
    · rw [hs]; simp [Ideal.div]
  · have real : ∀ k, ∃ w : ℝ, v k = w := fun k => by
      have hk : v k * v k ≠ ⊤ := fun e => hs (top_le_iff.1 (e ▸ le k))
      generalize v k = x at hk ⊢
      induction x using EReal.rec with
      | bot => simp at hk
      | top => simp at hk
      | coe r => exact ⟨r, rfl⟩
    choose w hw using real
    obtain rfl : v = fun k => (w k : EReal) := funext hw
    have sum := sum_coe w w
    simp only [sum] at h ⊢
    rw [hfloor, EReal.coe_le_coe_iff] at h
    have pos : 0 < ∑ k, w k * w k := he.trans_le h
    have root : 0 < √(∑ k, w k * w k) := Real.sqrt_pos.2 pos
    refine ⟨fun k => w k * (√(∑ k, w k * w k))⁻¹, fun k => ?_, fun k => ?_, fun k => ?_⟩
    · have : |w k| ≤ √(∑ k, w k * w k) := Real.abs_le_sqrt (by
        rw [sq]; exact Finset.single_le_sum (f := fun k => w k * w k) (fun k _ => mul_self_nonneg (w k)) (Finset.mem_univ k))
      rw [abs_mul, abs_inv, abs_of_pos root, ← div_eq_mul_inv]
      exact (div_le_one root).2 this
    · rw [Ideal.rsqrt_coe]
      rw [if_neg pos.not_gt, if_neg pos.ne', EReal.coe_mul]
    · rw [Ideal.sqrt_coe]
      rw [if_neg pos.not_gt, Ideal.div_coe root.ne', one_div, EReal.coe_mul]

/-- The inner product of two vectors of reals of magnitude at most one lies between -64 and 64. -/
theorem inner_bounds (u w : Fin 64 → ℝ) (hu : ∀ k, |u k| ≤ 1) (hw : ∀ k, |w k| ≤ 1) :
    ((-64 : ℝ) : EReal) ≤ ∑ k, (u k : EReal) * (w k : EReal) ∧ ∑ k, (u k : EReal) * (w k : EReal) ≤ ((64 : ℝ) : EReal) := by
  rw [sum_coe, EReal.coe_le_coe_iff, EReal.coe_le_coe_iff]
  have h : |∑ k, u k * w k| ≤ 64 := by
    refine (Finset.abs_sum_le_sum_abs _ _).trans ((Finset.sum_le_card_nsmul _ _ 1 fun k _ => ?_).trans (by simp))
    rw [abs_mul]
    exact mul_le_one₀ (hu k) (abs_nonneg _) (hw k)
  exact abs_le.1 h

/-- The greatest sum of three of a family that is zero everywhere is zero. -/
theorem isTop_zero {ι : Type} (x : ι → EReal) (h : ∀ i, x i = 0) (d : ∃ i j k : ι, i ≠ j ∧ i ≠ k ∧ j ≠ k) : IsTop x 0 := by
  obtain ⟨i, j, k, hij, hik, hjk⟩ := d
  exact ⟨fun i j k _ _ _ => by simp [h], i, j, k, hij, hik, hjk, by simp [h]⟩

/-- A sum over 448 rows taken as 64 sums of seven, of which the rows beyond the first 441 add nothing. -/
theorem sum_rows (T : Fin 448 → EReal) (h : ∀ i : Fin 448, 441 ≤ i.val → T i = 0) :
    ∑ r : Fin 64, ∑ q : Fin 7, T ⟨64 * q.val + r.val, by omega⟩ = ∑ i : Fin 441, T ⟨i.val, by omega⟩ := by
  rw [Finset.sum_comm]
  have e : ∑ q : Fin 7, ∑ r : Fin 64, T ⟨64 * q.val + r.val, by omega⟩ = ∑ i : Fin 448, T i := by
    rw [← Finset.sum_product', Finset.univ_product_univ]
    refine Fintype.sum_equiv (finProdFinEquiv (m := 7) (n := 64)) _ _ fun p => congrArg T (Fin.ext ?_)
    simp [finProdFinEquiv, add_comm]
  rw [e]
  rw [Fin.sum_univ_add (a := 441) (b := 7) T]
  rw [Finset.sum_eq_zero (s := (Finset.univ : Finset (Fin 7))) fun i _ => h _ (by simp), add_zero]
  rfl

end Cert.Top3
-- ==== Proof.StoredValue.lean ====
/- What the body of the second region stores at an index: for each class, the sum over the 448 rows of the greatest sum of
   three of the row's inner products with the class's 2205 columns. -/
module

public import proofs.«01_k».proof.Proof.TileValue
public import proofs.«01_k».proof.Proof.Unit

@[expose] public section

set_option maxRecDepth 16384

noncomputable section

namespace Cert.KernelIdeal.Tile

open Idealize.ShloMosaic Idealize.ShloMosaic.Tactic Idealize.SL.Sem Cert.KernelIdeal Cert.KernelIdeal.Gen Cert.KernelIdeal.Facts Cert.Top3

/-- The inner product of a query row with a column of a class. -/
theorem products_at (a : FVec Ideal S448x64 .f32) (s : FVec Ideal S64x11520 .f32) (c : Fin 5) (r : Fin 448) (l : Fin 2304) :
    products a s c (ix2 r l) = ∑ k, a (ix2 r k) * s (ix2 k ⟨2304 * c.val + l.val, by omega⟩) := by
  pointwise [products]

/-- A query row's entry scaled by the reciprocal root of the row's sum of squares, floored. -/
theorem queries_at (x : Vec Ideal S1x448x64 .f32) (r : Fin 448) (l : Fin 64) :
    queries (F := Ideal) x (ix2 r l) = x (ix3 0 r l) * Ideal.rsqrt (max (∑ k, x (ix3 0 r k) * x (ix3 0 r k)) floor) := by
  pointwise [queries]

/-- A support column's entry scaled by the reciprocal root of the column's sum of squares, floored. -/
theorem supports_at (x : Vec Ideal S64x11520 .f32) (r : Fin 64) (o : Fin 11520) :
    k0_pay1 (F := Ideal) x (ix2 r o) = x (ix2 r o) * Ideal.rsqrt (max (∑ k, x (ix2 k o) * x (ix2 k o)) floor) := by
  pointwise [k0_pay1]

/-- The class sum at a row adds the seven row tiles. -/
theorem classSum_at (p : FVec Ideal S448x2304 .f32) (r : Fin 64) (o : Fin 1) :
    classSum p (ix2 r o) = ∑ q : Fin 7, tile (rows p q) (ix2 r o) := by
  rw [Fin.sum_univ_seven]
  pointwise [classSum]

/-- Five columns side by side, added up over their rows. -/
theorem added_at (a : Fin 5 → FVec Ideal S64x1 .f32) (o o' : Fin 1) (c : Fin 5) :
    shapeCast S1x1x5 (shapeCast S1x5 (multiReduction .add [0] S5 (concatenate S64x5 1 [⟨S64x1, a 0⟩,
      ⟨S64x1, a 1⟩, ⟨S64x1, a 2⟩, ⟨S64x1, a 3⟩, ⟨S64x1, a 4⟩] concatenates_S64x1_S64x1_S64x1_S64x1_S64x1_S64x5_d1) 0x00000000#32
      reduces_S64x5_S5 (.inl rfl) rfl) shapeCasts_S5_S1x5) shapeCasts_S1x5_S1x1x5 (ix3 o o' c) = ∑ r : Fin 64, a c (ix2 r 0) := by
  generalize e0 : a 0 = a0
  generalize e1 : a 1 = a1
  generalize e2 : a 2 = a2
  generalize e3 : a 3 = a3
  generalize e4 : a 4 = a4
  pointwise
  subst e0 e1 e2 e3 e4
  fin_cases c <;> rfl

/-- What is stored for a class, from the greatest sum of three of each row. -/
theorem stored_at (x : Vec Ideal S1x448x64 .f32) (y : Vec Ideal S64x11520 .f32) (o o' : Fin 1) (c : Fin 5)
    {g : Fin 448 → Fin 2205 → EReal} {T : Fin 448 → EReal}
    (hp : ∀ i n, products (queries x) y c (ix2 i ⟨n.val, by omega⟩) = g i n)
    (hg : ∀ i n, ((-64 : ℝ) : EReal) ≤ g i n ∧ g i n ≤ ((64 : ℝ) : EReal)) (hT : ∀ i, IsTop (g i) (T i)) :
    stored x y (ix3 o o' c) = ∑ r : Fin 64, ∑ q : Fin 7, T ⟨64 * q.val + r.val, by omega⟩ := by
  refine (added_at (fun c => classSum (products (queries x) (shapeCast S64x11520 y shapeCasts_S64x11520_S64x11520) c)) o o' c).trans ?_
  refine Finset.sum_congr rfl fun r _ => ?_
  simp only [classSum_at]
  refine Finset.sum_congr rfl fun q _ => ?_
  refine tile_at _ q r 0 (g := g ⟨64 * q.val + r.val, by omega⟩) (fun n => ?_) (hg _) (hT _)
  have e : shapeCast S64x11520 y shapeCasts_S64x11520_S64x11520 = y := by
    funext i
    idx_vars i
    pointwise
  rw [← hp, e]

end Cert.KernelIdeal.Tile
-- ==== Proof.Meaning.lean ====
/- What the reference computes, read at an index: each descriptor over its norm, the inner products of the query's descriptors
   with the supports', and the sum over the query's descriptors of the greatest sum of three. -/
module

public import proofs.«01_k».proof.Proof.Gen.ReferenceIdeal.Run
public import proofs.«01_k».proof.Proof.Lanes
public import Idealize.ShloMosaic.Lib.Pointwise
public import Idealize.ShloMosaic.Lib.SortFacts

@[expose] public section

set_option maxRecDepth 16384

noncomputable section

namespace Cert.ReferenceIdeal.Meaning
open Idealize.ShloMosaic Idealize.ShloMosaic.Tactic Idealize.SL.Sem Cert.ReferenceIdeal Cert.ReferenceIdeal.Gen Cert.ReferenceIdeal.Facts Cert.Top3

/-- The query's descriptors over their norms, one row per place. -/
def unitQ (A : FVec Ideal S32x64x21x21 .f32) : FVec Ideal S32x441x64 .f32 :=
  let x := transpose S32x441x64 [0, 2, 1] (shapeCast S32x64x441 A shapeCasts_S32x64x21x21_S32x64x441) transposes_S32x64x441_S32x441x64_0_2_1
  Host.divf x (broadcastInDim S32x441x64 ![0, 1, 2] bcast_S32x441x1_S32x441x64_0_1_2 (Host.sqrt (broadcastInDim S32x441x1 ![0, 1]
    bcast_S32x441_S32x441x1_0_1 (Host.reduceAdd (mulf x x) (constant S_ .f32 0x00000000#32) reducesTo_S32x441x64_S32x441_d2 h_S_))))

/-- The supports' descriptors over their norms, one row per place. -/
def unitS (A : FVec Ideal S25x64x21x21 .f32) : FVec Ideal S25x441x64 .f32 :=
  let x := transpose S25x441x64 [0, 2, 1] (shapeCast S25x64x441 A shapeCasts_S25x64x21x21_S25x64x441) transposes_S25x64x441_S25x441x64_0_2_1
  Host.divf x (broadcastInDim S25x441x64 ![0, 1, 2] bcast_S25x441x1_S25x441x64_0_1_2 (Host.sqrt (broadcastInDim S25x441x1 ![0, 1]
    bcast_S25x441_S25x441x1_0_1 (Host.reduceAdd (mulf x x) (constant S_ .f32 0x00000000#32) reducesTo_S25x441x64_S25x441_d2 h_S_))))

/-- Every query row against every support row, the supports grouped by class. -/
def inner (q : FVec Ideal S32x441x64 .f32) (s : FVec Ideal S25x441x64 .f32) : FVec Ideal S32x1x441x5x2205 .f32 :=
  shapeCast _ (shapeCast _ (broadcastInDim S32x1x441x11025 ![0, 2, 3] bcast_S32x441x11025_S32x1x441x11025_0_2_3
    (Host.dotGeneral dot_S32x441x64_S64x11025_S32x441x11025_2_0_01_1_n_n none
      (shapeCast _ (broadcastInDim S32x1x441x64 ![0, 2, 3] bcast_S32x441x64_S32x1x441x64_0_2_3 q) shapeCasts_S32x1x441x64_S32x441x64)
      (shapeCast _ (transpose S1x64x11025 [0, 2, 1] (shapeCast S1x11025x64 s shapeCasts_S25x441x64_S1x11025x64)
        transposes_S1x11025x64_S1x64x11025_0_2_1) shapeCasts_S1x64x11025_S64x11025)))
    shapeCasts_S32x1x441x11025_S32x441x11025) shapeCasts_S32x441x11025_S32x1x441x5x2205

/-- The three greatest of each row and class, summed over the three and over the query's rows. -/
def summed (x : FVec Ideal S32x1x441x5x2205 .f32) : FVec Ideal S32x5 .f32 :=
  shapeCast _ (Host.reduceAdd (Host.reduceAdd (Host.topK S32x1x441x5x3 4 (FloatOps.cmpfTotal .gt) x
    sliceFits_S32x1x441x5x2205_S32x1x441x5x3).1 (constant S_ .f32 0x00000000#32) reducesTo_S32x1x441x5x3_S32x1x441x5_d4 h_S_)
    (constant S_ .f32 0x00000000#32) reducesTo_S32x1x441x5_S32x1x5_d2 h_S_) shapeCasts_S32x1x5_S32x5

/-- A family sorted in descending order holds its three greatest values at the first three positions. -/
theorem sorted_greatest3 {n : Nat} (f : Fin n → EReal) (h : 3 ≤ n) (B : Fin n → Fin n → Bool)
    (hB : ∀ k k', B k k' = decide (f k' < f k)) : Greatest3 f (f (sortedFrom B ⟨0, by omega⟩))
      (f (sortedFrom B ⟨1, by omega⟩)) (f (sortedFrom B ⟨2, by omega⟩)) := by
  have down : ∀ i j : Fin n, i.val ≤ j.val → f (sortedFrom B j) ≤ f (sortedFrom B i) := by
    intro i j hij
    rcases Nat.lt_or_ge i.val j.val with e | e
    · have := sortedFrom_noInversion B B (fun a b e => by
          rw [hB, decide_eq_true_eq] at e; rw [hB, decide_eq_false_iff_not]; exact e.le.not_gt)
        (fun _ _ e => e) (fun a b c h1 h2 => by
          rw [hB, decide_eq_false_iff_not, not_lt] at h1 h2 ⊢; exact h1.trans h2) i j e
      rwa [hB, decide_eq_false_iff_not, not_lt] at this
    · rw [Fin.ext (le_antisymm hij e)]
  have inj : ∀ {p q : Fin n}, p.val ≠ q.val → sortedFrom B p ≠ sortedFrom B q := fun hn e =>
    hn (congrArg Fin.val (sortedFrom_injective B e))
  refine ⟨⟨_, _, _, inj ?_, inj ?_, inj ?_, le_rfl, le_rfl, le_rfl⟩, ?_, ?_, ?_⟩
  · simp
  · simp
  · simp
  · intro i
    obtain ⟨p, rfl⟩ := sortedFrom_surjective B i
    exact down _ _ (Nat.zero_le _)
  · intro i j hij
    obtain ⟨p, rfl⟩ := sortedFrom_surjective B i
    obtain ⟨q, rfl⟩ := sortedFrom_surjective B j
    have hpq : p.val ≠ q.val := fun e => hij (congrArg _ (Fin.ext e))
    rcases Nat.eq_zero_or_pos p.val with e | e
    · exact min_le_of_right_le (down _ _ (show 1 ≤ q.val by omega))
    · exact min_le_of_left_le (down _ _ (show 1 ≤ p.val by omega))
  · intro i j k hij hik hjk
    obtain ⟨p, rfl⟩ := sortedFrom_surjective B i
    obtain ⟨q, rfl⟩ := sortedFrom_surjective B j
    obtain ⟨r, rfl⟩ := sortedFrom_surjective B k
    have hpq : p.val ≠ q.val := fun e => hij (congrArg _ (Fin.ext e))
    have hpr : p.val ≠ r.val := fun e => hik (congrArg _ (Fin.ext e))
    have hqr : q.val ≠ r.val := fun e => hjk (congrArg _ (Fin.ext e))
    rcases Nat.lt_or_ge p.val 2 with e | e
    · rcases Nat.lt_or_ge q.val 2 with e' | e'
      · exact min_le_of_right_le (min_le_of_right_le (down _ _ (show 2 ≤ r.val by omega)))
      · exact min_le_of_right_le (min_le_of_left_le (down _ _ e'))
    · exact min_le_of_left_le (down _ _ e)

/-- Every family of at least three values has a greatest sum of three. -/
theorem isTop_exists {n : Nat} (f : Fin n → EReal) (h : 3 ≤ n) : ∃ S, IsTop f S :=
  ⟨_, (sorted_greatest3 f h (fun k k' => decide (f k' < f k)) fun _ _ => rfl).isTop⟩

/-- Moving along the last axis replaces the last coordinate. -/
theorem along_last (b : Fin 32) (o : Fin 1) (i : Fin 441) (c : Fin 5) (n k : Fin 2205) :
    Shape.Idx.along (s := S32x1x441x5x2205) (ix5 b o i c n) 4 k = ix5 b o i c k := by
  funext a
  fin_cases a <;> rfl

/-- The first three along the last axis, at an index. -/
theorem slice_at (y : FVec Ideal S32x1x441x5x2205 .f32) (b : Fin 32) (o : Fin 1) (i : Fin 441) (c : Fin 5) (t : Fin 3) :
    extractStridedSlice S32x1x441x5x3 (fun _ => 0) y sliceFits_S32x1x441x5x2205_S32x1x441x5x3 (ix5 b o i c t)
      = y (ix5 b o i c ⟨t.val, by omega⟩) := by
  obtain rfl : o = 0 := Subsingleton.elim _ _
  pointwise

/-- The three greatest are read at the first three positions of the row sorted in descending order. -/
theorem topK_at (x : FVec Ideal S32x1x441x5x2205 .f32) (b : Fin 32) (o : Fin 1) (i : Fin 441) (c : Fin 5) (t : Fin 3) :
    (Host.topK S32x1x441x5x3 4 (FloatOps.cmpfTotal .gt) x sliceFits_S32x1x441x5x2205_S32x1x441x5x3).1 (ix5 b o i c t)
      = x (ix5 b o i c (sortedFrom (fun k k' => FloatOps.cmpfTotal .gt (x (ix5 b o i c k)) (x (ix5 b o i c k')) == 1#1)
          ⟨t.val, by omega⟩)) := by
  simp only [Host.topK, slice_at]
  rw [Host.sort2, dif_pos (by decide)]
  simp only
  erw [along_last]
  refine congrArg (fun k => x (ix5 b o i c k)) ?_
  refine congrArg (fun B => sortedFrom B _) ?_
  funext k k'
  erw [along_last, along_last]

/-- The reference's result at an index is the sum over the query's rows of the greatest sum of three. -/
theorem summed_at (x : FVec Ideal S32x1x441x5x2205 .f32) (b : Fin 32) (c : Fin 5) {T : Fin 441 → EReal}
    (hT : ∀ i, IsTop (fun n => x (ix5 b 0 i c n)) (T i)) : summed x (ix2 b c) = ∑ i, T i := by
  have h : summed x (ix2 b c) = ∑ i : Fin 441, ∑ t : Fin 3, (Host.topK S32x1x441x5x3 4 (FloatOps.cmpfTotal .gt) x
      sliceFits_S32x1x441x5x2205_S32x1x441x5x3).1 (ix5 b 0 i c t) := by pointwise [summed]
  rw [h]
  refine Finset.sum_congr rfl fun i _ => ?_
  simp only [topK_at]
  rw [Fin.sum_univ_three]
  refine IsTop.unique (Greatest3.isTop ?_) (hT i)
  exact sorted_greatest3 (fun n => x (ix5 b 0 i c n)) (by decide) _ fun k k' => by
    change (Ideal.cmpTotal .gt _ _ == 1#1) = _
    simp only [Ideal.cmpTotal]
    simp only [Ideal.cmp, CmpDirection.ordered]
    cases decide (x (ix5 b 0 i c k') < x (ix5 b 0 i c k)) <;> rfl

/-- The descriptor of the query `b` at the place `i`. -/
def queryAt (A : FVec Ideal S32x64x21x21 .f32) (b : Fin 32) (i : Fin 441) (k : Fin 64) : EReal :=
  A (ix4 b k ⟨i.val / 21, by omega⟩ ⟨i.val % 21, by omega⟩)

/-- The descriptor of the support image `e` at the place `i`. -/
def supportAt (A : FVec Ideal S25x64x21x21 .f32) (e : Fin 25) (i : Fin 441) (k : Fin 64) : EReal :=
  A (ix4 e k ⟨i.val / 21, by omega⟩ ⟨i.val % 21, by omega⟩)

/-- The query's entry over the root of its descriptor's sum of squares. -/
theorem unitQ_at (A : FVec Ideal S32x64x21x21 .f32) (b : Fin 32) (i : Fin 441) (k : Fin 64) :
    unitQ A (ix3 b i k) = Ideal.div (queryAt A b i k) (Ideal.sqrt (∑ k, queryAt A b i k * queryAt A b i k)) := by
  pointwise [unitQ, queryAt]

/-- The support's entry over the root of its descriptor's sum of squares. -/
theorem unitS_at (A : FVec Ideal S25x64x21x21 .f32) (b : Fin 25) (i : Fin 441) (k : Fin 64) :
    unitS A (ix3 b i k) = Ideal.div (supportAt A b i k) (Ideal.sqrt (∑ k, supportAt A b i k * supportAt A b i k)) := by
  pointwise [unitS, supportAt]

/-- The inner product of a query row with the row `n` of the class `c`. -/
theorem inner_at (q : FVec Ideal S32x441x64 .f32) (s : FVec Ideal S25x441x64 .f32) (b : Fin 32) (o : Fin 1) (i : Fin 441)
    (c : Fin 5) (n : Fin 2205) : inner q s (ix5 b o i c n)
      = ∑ k, q (ix3 b i k) * s (ix3 ⟨(c.val * 2205 + n.val) / 441, by omega⟩ ⟨(c.val * 2205 + n.val) % 441, by omega⟩ k) := by
  pointwise [inner]

end Cert.ReferenceIdeal.Meaning
-- ==== Proof.Equation.lean ====
/- The equation: what the kernel stores for a query and a class is what the reference computes, when no descriptor's sum of
   squares is below the kernel's floor. -/
module

public import proofs.«01_k».proof.Proof.Host
public import proofs.«01_k».proof.Proof.Arrays
public import proofs.«01_k».proof.Proof.StoredValue
public import proofs.«01_k».proof.Proof.Meaning

@[expose] public section

set_option maxRecDepth 16384

noncomputable section

namespace Cert.Equation

open Idealize.ShloMosaic Cert.Top3
open Cert.KernelIdeal (S32x64x21x21 S25x64x21x21)
open Cert.KernelIdeal.Gen Cert.KernelIdeal.Tile Cert.KernelIdeal.Meaning Cert.ReferenceIdeal.Meaning

/-- The kernel's scaled query row: the descriptor's unit vector, or zeros in the padding. -/
theorem query_row (A : FVec Ideal S32x64x21x21 .f32) (b : Fin 32) (u : Fin 441 → Fin 64 → ℝ)
    (hu : ∀ i k, queryAt A b i k * Ideal.rsqrt (max (∑ k, queryAt A b i k * queryAt A b i k) floor) = u i k)
    (i : Fin 448) (k : Fin 64) : queries (F := Ideal) (block (queryRows A) b) (ix2 i k)
      = if h : i.val < 441 then ((u ⟨i.val, h⟩ k : ℝ) : EReal) else 0 := by
  have e : ∀ k, block (queryRows A) b (ix3 0 i k)
      = if h : i.val < 441 then queryAt A b ⟨i.val, h⟩ k else 0 := fun k => queryRows_at A b i k
  rw [queries_at]
  simp only [e]
  split
  · exact hu _ _
  · simp

/-- The kernel's scaled support column: the descriptor's unit vector. -/
theorem support_column (S : FVec Ideal S25x64x21x21 .f32) (u : Fin 25 → Fin 441 → Fin 64 → ℝ)
    (hu : ∀ e i k, supportAt S e i k * Ideal.rsqrt (max (∑ k, supportAt S e i k * supportAt S e i k) floor) = u e i k)
    (c : Fin 5) (n : Fin 2205) (k : Fin 64) :
    k0_pay1 (F := Ideal) (supportColumns S) (ix2 k ⟨2304 * c.val + n.val, by omega⟩)
      = ((u ⟨(c.val * 2205 + n.val) / 441, by omega⟩ ⟨(c.val * 2205 + n.val) % 441, by omega⟩ k : ℝ) : EReal) := by
  rw [supports_at]
  simp only [supportColumns_at]
  exact hu ⟨(c.val * 2205 + n.val) / 441, by omega⟩ ⟨(c.val * 2205 + n.val) % 441, by omega⟩ k

/-- What the kernel stores for the query `b` and the class `c` is the reference's value there. -/
theorem kernel_eq_reference (A : FVec Ideal S32x64x21x21 .f32) (S : FVec Ideal S25x64x21x21 .f32)
    (hA : ∀ (b : Fin 32) (y x : Fin 21), floor ≤ ∑ k : Fin 64, A (ix4 b k y x) * A (ix4 b k y x))
    (hS : ∀ (e : Fin 25) (y x : Fin 21), floor ≤ ∑ k : Fin 64, S (ix4 e k y x) * S (ix4 e k y x)) (b : Fin 32) (c : Fin 5) :
    stored (F := Ideal) (block (queryRows A) b) (k0_pay1 (F := Ideal) (supportColumns S)) (ix3 0 0 c)
      = summed (inner (unitQ A) (unitS S)) (ix2 b c) := by
  choose u hu1 huK huR using fun i : Fin 441 => unit_exists (queryAt A b i) (hA b _ _)
  choose w hw1 hwK hwR using fun (e : Fin 25) (i : Fin 441) => unit_exists (supportAt S e i) (hS e _ _)
  let col (n : Fin 2205) : Fin 64 → ℝ :=
    w ⟨(c.val * 2205 + n.val) / 441, by omega⟩ ⟨(c.val * 2205 + n.val) % 441, by omega⟩
  let g (i : Fin 448) (n : Fin 2205) : EReal :=
    if h : i.val < 441 then ∑ k, ((u ⟨i.val, h⟩ k : ℝ) : EReal) * ((col n k : ℝ) : EReal) else 0
  choose T hT using fun i => isTop_exists (g i) (by decide)
  have hg : ∀ i n, ((-64 : ℝ) : EReal) ≤ g i n ∧ g i n ≤ ((64 : ℝ) : EReal) := fun i n => by
    by_cases h : i.val < 441
    · simp only [g, dif_pos h]
      exact inner_bounds _ _ (hu1 _) (hw1 _ _)
    · simp only [g, dif_neg h]
      exact ⟨EReal.coe_nonpos.2 (by norm_num), EReal.coe_nonneg.2 (by norm_num)⟩
  have hp : ∀ i n, products (queries (F := Ideal) (block (queryRows A) b)) (k0_pay1 (F := Ideal) (supportColumns S)) c
      (ix2 i ⟨n.val, by omega⟩) = g i n := fun i n => by
    rw [products_at]
    by_cases h : i.val < 441
    · simp only [g, dif_pos h]
      refine Finset.sum_congr rfl fun k _ => ?_
      rw [query_row A b u huK, dif_pos h, support_column S w hwK]
    · simp only [g, dif_neg h]
      refine Finset.sum_eq_zero fun k _ => ?_
      rw [query_row A b u huK, dif_neg h, zero_mul]
  rw [stored_at _ _ 0 0 c hp hg hT, sum_rows T fun i hi => ?_]
  · refine (summed_at _ b c fun i => ?_).symm
    refine Eq.mp (congrArg (IsTop · _) (funext fun n => ?_)) (hT ⟨i.val, by omega⟩)
    rw [inner_at]
    simp only [g, dif_pos i.isLt]
    refine Finset.sum_congr rfl fun k _ => ?_
    rw [unitQ_at, unitS_at, huR, hwR]
  · refine (hT i).unique (isTop_zero _ (fun n => ?_) ⟨0, 1, 2, by decide, by decide, by decide⟩)
    exact dif_neg (by omega)

end Cert.Equation
-- ==== Proof.Precondition.lean ====
/- The precondition read at an index: every descriptor's sum of squares is not below the kernel's floor. -/
module

public import proofs.«01_k».proof.Pre_descriptors_not_tiny
public import proofs.«01_k».proof.Proof.Unit
public import Idealize.ShloMosaic.Lib.ReduceAll
public import Idealize.ShloMosaic.Lib.Pointwise

@[expose] public section

set_option maxRecDepth 16384

noncomputable section

namespace Cert.Pre_descriptors_not_tiny.Meaning

open Idealize.ShloMosaic Cert.Pre_descriptors_not_tiny Cert.Top3

/-- The side conditions the precondition's operations state. -/
theorem facts : Facts where
  reducesTo_S32x64x21x21_S32x21x21_d1 := by decide
  h_S_ := by decide
  reducesTo_S25x64x21x21_S25x21x21_d1 := by decide
  bcast_S_S32x21x21 := by decide
  reducesTo_S32x21x21_S_d0_1_2 := by decide
  bcast_S_S25x21x21 := by decide
  reducesTo_S25x21x21_S_d0_1_2 := by decide

instance : Subsingleton S_.Idx := ⟨fun i j => funext fun a => a.elim0⟩

/-- Two bits whose conjunction is one are both one. -/
theorem both (a b : BitVec 1) : IntOp.andi a b = 1#1 → a = 1#1 ∧ b = 1#1 := by
  revert a b; decide

/-- A comparison that answers one says that the second operand is at most the first. -/
theorem ge_of (x y : EReal) (h : FloatOps.cmpf (F := Ideal) (φ := .f32) .oge x y = 1#1) : y ≤ x := by
  change Ideal.cmp .oge x y = 1#1 at h
  simp only [Ideal.cmp] at h
  by_contra e
  rw [decide_eq_false e] at h
  exact absurd h (by decide)

variable [Facts]
open Facts

/-- No query's descriptor and no support's descriptor has a sum of squares below the floor. -/
theorem not_tiny (A : FVec Ideal S32x64x21x21 .f32) (S : FVec Ideal S25x64x21x21 .f32) (h : fn (F := Ideal) A S = fun _ => 1#1) :
    (∀ (b : Fin 32) (y x : Fin 21), floor ≤ ∑ k : Fin 64, A (ix4 b k y x) * A (ix4 b k y x)) ∧
      ∀ (e : Fin 25) (y x : Fin 21), floor ≤ ∑ k : Fin 64, S (ix4 e k y x) * S (ix4 e k y x) := by
  obtain ⟨hA, hS⟩ := both _ _ (congrFun h (fun a => a.elim0))
  refine ⟨fun b y x => ?_, fun e y x => ?_⟩
  · have := ge_of _ _ (Host.reduce_andi_all _ _ _ _ _ hA (ix3 b y x))
    pointwise at this
    exact this
  · have := ge_of _ _ (Host.reduce_andi_all _ _ _ _ _ hS (ix3 e y x))
    pointwise at this
    exact this

end Cert.Pre_descriptors_not_tiny.Meaning
-- ==== Proof.Run.lean ====
/- The kernel's run: it ends with the result array at the contents the fold through its segments names, the arguments as
   launched and every semaphore counter at zero. -/
module

public import proofs.«01_k».proof.Proof.Gen.KernelIdeal.Frame

@[expose] public section

set_option maxRecDepth 16384

noncomputable section

namespace Cert.KernelIdeal.Meaning

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the result array at the last boundary's contents and the arguments as launched. -/
theorem run : θ_run defs (onTc (τ := τ) (main (F := F))) ⟨m, fun _ => 0, ρ⟩ (fun r => ∀ c : Dev nD,
      r.2.mem ((c.tc : Thread nD τ).loc main_v10) = W8 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c =>
      ⟨h c _ (mem_uc main_v10 (by decide)),
       (h c _ (mem_uc main_arg0 (by decide))).trans (W8_main_arg0 m ρ c),
       (h c _ (mem_uc main_arg1 (by decide))).trans (W8_main_arg1 m ρ c)⟩)

end Cert.KernelIdeal.Meaning
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import proofs.«01_k».proof.Proof.Precondition
public import proofs.«01_k».proof.Proof.Run
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

/-- Every run of the reference ends, its arguments as launched; it declares no semaphore, so every counter is zero. -/
theorem reference_quiescent : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The result array the kernel leaves is the reference's value of the arguments. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    {A : FVec Ideal Cert.KernelIdeal.S32x64x21x21 .f32} {S : FVec Ideal Cert.KernelIdeal.S25x64x21x21 .f32}
    (eA : m ((c : Thread Cert.KernelIdeal.nD Cert.KernelIdeal.τ).loc Cert.KernelIdeal.main_arg0) = A)
    (eS : m ((c : Thread Cert.KernelIdeal.nD Cert.KernelIdeal.τ).loc Cert.KernelIdeal.main_arg1) = S)
    (hA : ∀ (b : Fin 32) (y x : Fin 21), Cert.Top3.floor ≤ ∑ k : Fin 64, A (ix4 b k y x) * A (ix4 b k y x))
    (hS : ∀ (e : Fin 25) (y x : Fin 21), Cert.Top3.floor ≤ ∑ k : Fin 64, S (ix4 e k y x) * S (ix4 e k y x)) :
    Cert.KernelIdeal.Gen.W8 m ρ c (Proc.devRef .tc Cert.KernelIdeal.main_v10)
      = Cert.ReferenceIdeal.Meaning.summed (Cert.ReferenceIdeal.Meaning.inner (Cert.ReferenceIdeal.Meaning.unitQ A)
          (Cert.ReferenceIdeal.Meaning.unitS S)) := by
  rw [Cert.KernelIdeal.Meaning.result_read, Cert.KernelIdeal.Meaning.sums_left, Cert.KernelIdeal.Meaning.queries_entered,
    show Cert.KernelIdeal.Gen.V6 m ρ c Cert.KernelIdeal.main_v8 = _ from Cert.KernelIdeal.Gen.W6_arr m ρ c 1,
    Cert.KernelIdeal.Meaning.supports_left, Cert.KernelIdeal.Meaning.supports_entered, eA, eS]
  funext i
  idx_vars i
  refine Eq.trans ?_ (Cert.Equation.kernel_eq_reference A S hA hS _ _)
  pointwise

/-- Kernel and reference end with the same result array over the extended reals. -/
theorem value : Cert.algebraic_KernelIdeal_ReferenceIdeal_pre_descriptors_not_tiny
    (hPre_descriptors_not_tiny := Cert.Pre_descriptors_not_tiny.Meaning.facts) := by
  intro m g m' g' hpre hargs
  refine ⟨_, Cert.KernelIdeal.Meaning.run m g, ?_⟩
  refine (θ_run Cert.ReferenceIdeal.defs _ _).mono (fun r h c => ⟨(h c).1.trans ?_, (h c).2⟩)
    (Cert.ReferenceIdeal.Value.run (F := Ideal) m' g')
  obtain ⟨hA, hS⟩ := @Cert.Pre_descriptors_not_tiny.Meaning.not_tiny Cert.Pre_descriptors_not_tiny.Meaning.facts _ _ (hpre c)
  rw [(hargs c).1, (hargs c).2]
  exact (result_eq m g c rfl rfl hA hS).symm

/-- The claim: the frames of the kernel (as printed and over the extended reals) and of the reference, and the value. -/
theorem claim : Cert.Claim :=
  ⟨Cert.Kernel.Gen.facts, Cert.KernelIdeal.Gen.facts, Cert.ReferenceIdeal.Gen.facts, Cert.Pre_descriptors_not_tiny.Meaning.facts,
    fun m ρ _ => Cert.Kernel.Gen.frame m ρ, fun m ρ _ => Cert.KernelIdeal.Gen.frame m ρ,
    fun m ρ _ => Cert.KernelIdeal.Gen.frame m ρ, reference_quiescent, fun m ρ _ => reference_quiescent m ρ trivial, trivial, value⟩

end Cert.Proof

end
